-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_ascend [hPre_tables_ascend : Cert.Pre_tables_ascend.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ascend.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ascend [hPre_tables_ascend : Cert.Pre_tables_ascend.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ascend.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tables_ascend [hKernelIdeal : Cert.KernelIdeal.Facts] [hPre_tables_ascend : Cert.Pre_tables_ascend.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_ascend m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tables_ascend [hReferenceIdeal : Cert.ReferenceIdeal.Facts] [hPre_tables_ascend : Cert.Pre_tables_ascend.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ascend m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tables_ascend [hKernelIdeal : Cert.KernelIdeal.Facts] [hReferenceIdeal : Cert.ReferenceIdeal.Facts] [hPre_tables_ascend : Cert.Pre_tables_ascend.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_ascend m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v18_2)) (v4 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v18_2) = v3 c
          ∧ r.2.mem ((c.tc : Thread Cert.KernelIdeal.nD Cert.KernelIdeal.τ).loc Cert.KernelIdeal.main_v20) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tables_ascend : Cert.Pre_tables_ascend.Facts),
    quiescent_Kernel (hKernel := hKernel)
    ∧ quiescent_KernelIdeal (hKernelIdeal := hKernelIdeal)
    ∧ quiescent_KernelIdeal_pre_tables_ascend (hKernelIdeal := hKernelIdeal) (hPre_tables_ascend := hPre_tables_ascend)
    ∧ quiescent_ReferenceIdeal (hReferenceIdeal := hReferenceIdeal)
    ∧ quiescent_ReferenceIdeal_pre_tables_ascend (hReferenceIdeal := hReferenceIdeal) (hPre_tables_ascend := hPre_tables_ascend)
    ∧ preserves_Kernel_KernelIdeal
    ∧ algebraic_KernelIdeal_ReferenceIdeal_pre_tables_ascend (hKernelIdeal := hKernelIdeal) (hReferenceIdeal := hReferenceIdeal) (hPre_tables_ascend := hPre_tables_ascend)
-- ==== Pre_tables_ascend.lean ====
abbrev S3x640x8192 : Shape := ⟨3, ![3, 640, 8192]⟩
abbrev S3x2560x2048 : Shape := ⟨3, ![3, 2560, 2048]⟩
abbrev S3x2560 : Shape := ⟨2, ![3, 2560]⟩
abbrev S256 : Shape := ⟨1, ![256]⟩
abbrev S255 : Shape := ⟨1, ![255]⟩

class Facts : Prop where
  slices_S256_S255_0 : S256.Slices ![0] S255
  slices_S256_S255_1 : S256.Slices ![1] S255

variable [Facts]

def fn {F : FTy → Type} [FloatOps F] (main_arg0 : FVec F S3x640x8192 .bf16) (main_arg1 : FVec F S3x640x8192 .bf16) (main_arg2 : IVec S3x2560x2048 8) (main_arg3 : FVec F S3x2560 .f32) (main_arg4 : IVec S3x2560x2048 8) (main_arg5 : FVec F S3x2560 .f32) (main_arg6 : FVec F S256 .f32) (main_arg7 : FVec F S256 .f32) : IVec S255 1 :=
  let main_v0 : FVec F S255 .f32 := (extractStridedSlice S255 ![0] · slices_S256_S255_0) main_arg6
  let main_v1 : FVec F S255 .f32 := (extractStridedSlice S255 ![1] · slices_S256_S255_1) main_arg6
  let main_v2 : IVec S255 1 := cmpf .ole main_v0 main_v1
  let main_v3 : FVec F S255 .f32 := (extractStridedSlice S255 ![0] · slices_S256_S255_0) main_arg7
  let main_v4 : FVec F S255 .f32 := (extractStridedSlice S255 ![1] · slices_S256_S255_1) main_arg7
  let main_v5 : IVec S255 1 := cmpf .ole main_v3 main_v4
  let main_v6 : IVec S255 1 := andi main_v2 main_v5
  main_v6
-- ==== Kernel.lean ====
abbrev S3x640x8192 : Shape := ⟨3, ![3, 640, 8192]⟩
abbrev S3x2560x2048 : Shape := ⟨3, ![3, 2560, 2048]⟩
abbrev S3x2560 : Shape := ⟨2, ![3, 2560]⟩
abbrev S256 : Shape := ⟨1, ![256]⟩
abbrev S2x128 : Shape := ⟨2, ![2, 128]⟩
abbrev S255 : Shape := ⟨1, ![255]⟩
abbrev S_ : Shape := ⟨0, ![]⟩
abbrev S3x640x4 : Shape := ⟨3, ![3, 640, 4]⟩
abbrev S1x32x8192 : Shape := ⟨3, ![1, 32, 8192]⟩
abbrev S1x128x2048 : Shape := ⟨3, ![1, 128, 2048]⟩
abbrev S1x32x4 : Shape := ⟨3, ![1, 32, 4]⟩
abbrev S32x8192 : Shape := ⟨2, ![32, 8192]⟩
abbrev S1x128 : Shape := ⟨2, ![1, 128]⟩
abbrev S16x128 : Shape := ⟨2, ![16, 128]⟩
abbrev S1x16x1 : Shape := ⟨3, ![1, 16, 1]⟩
abbrev S16x1 : Shape := ⟨2, ![16, 1]⟩
abbrev S1x64x128 : Shape := ⟨3, ![1, 64, 128]⟩
abbrev S64x128 : Shape := ⟨2, ![64, 128]⟩
abbrev S16x128x1 : Shape := ⟨3, ![16, 128, 1]⟩
abbrev S1x16x128 : Shape := ⟨3, ![1, 16, 128]⟩
abbrev S16 : Shape := ⟨1, ![16]⟩

abbrev nBuf : Space → Nat
  | .hbm => 39
  | .vmem => 28
  | .smem => 0
  | _ => 0

abbrev bufTy : (tb : Table) → Fin (tcTables nBuf tb) → BufTy
  | .hbm, ⟨0, _⟩ => ⟨S3x640x8192, .bf16⟩
  | .hbm, ⟨1, _⟩ => ⟨S3x640x8192, .bf16⟩
  | .hbm, ⟨2, _⟩ => ⟨S3x2560x2048, .i8⟩
  | .hbm, ⟨3, _⟩ => ⟨S3x2560, .f32⟩
  | .hbm, ⟨4, _⟩ => ⟨S3x2560x2048, .i8⟩
  | .hbm, ⟨5, _⟩ => ⟨S3x2560, .f32⟩
  | .hbm, ⟨6, _⟩ => ⟨S256, .f32⟩
  | .hbm, ⟨7, _⟩ => ⟨S256, .f32⟩
  | .hbm, ⟨8, _⟩ => ⟨S2x128, .f32⟩
  | .hbm, ⟨9, _⟩ => ⟨S2x128, .f32⟩
  | .hbm, ⟨10, _⟩ => ⟨S255, .f32⟩
  | .hbm, ⟨11, _⟩ => ⟨S255, .f32⟩
  | .hbm, ⟨12, _⟩ => ⟨S255, .f32⟩
  | .hbm, ⟨13, _⟩ => ⟨S_, .f32⟩
  | .hbm, ⟨14, _⟩ => ⟨S255, .f32⟩
  | .hbm, ⟨15, _⟩ => ⟨S255, .f32⟩
  | .hbm, ⟨16, _⟩ => ⟨S_, .f32⟩
  | .hbm, ⟨17, _⟩ => ⟨S_, .f32⟩
  | .hbm, ⟨18, _⟩ => ⟨S256, .f32⟩
  | .hbm, ⟨19, _⟩ => ⟨S2x128, .f32⟩
  | .hbm, ⟨20, _⟩ => ⟨S255, .f32⟩
  | .hbm, ⟨21, _⟩ => ⟨S255, .f32⟩
  | .hbm, ⟨22, _⟩ => ⟨S255, .f32⟩
  | .hbm, ⟨23, _⟩ => ⟨S_, .f32⟩
  | .hbm, ⟨24, _⟩ => ⟨S255, .f32⟩
  | .hbm, ⟨25, _⟩ => ⟨S255, .f32⟩
  | .hbm, ⟨26, _⟩ => ⟨S_, .f32⟩
  | .hbm, ⟨27, _⟩ => ⟨S_, .f32⟩
  | .hbm, ⟨28, _⟩ => ⟨S256, .f32⟩
  | .hbm, ⟨29, _⟩ => ⟨S2x128, .f32⟩
  | .hbm, ⟨30, _⟩ => ⟨S3x640x4, .f32⟩
  | .hbm, ⟨31, _⟩ => ⟨S3x640x4, .f32⟩
  | .hbm, ⟨32, _⟩ => ⟨S3x640x8192, .bf16⟩
  | .hbm, ⟨33, _⟩ => ⟨S3x2560x2048, .i8⟩
  | .hbm, ⟨34, _⟩ => ⟨S3x2560x2048, .i8⟩
  | .hbm, ⟨35, _⟩ => ⟨S3x640x4, .f32⟩
  | .hbm, ⟨36, _⟩ => ⟨S3x640x4, .f32⟩
  | .hbm, ⟨37, _⟩ => ⟨S3x2560, .f32⟩
  | .hbm, ⟨38, _⟩ => ⟨S3x2560, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S1x32x8192, .bf16⟩
  | .local _ .vmem, ⟨5, _⟩ => ⟨S1x32x8192, .bf16⟩
  | .local _ .vmem, ⟨6, _⟩ => ⟨S1x32x8192, .bf16⟩
  | .local _ .vmem, ⟨7, _⟩ => ⟨S1x32x8192, .bf16⟩
  | .local _ .vmem, ⟨8, _⟩ => ⟨S1x128x2048, .i8⟩
  | .local _ .vmem, ⟨9, _⟩ => ⟨S1x128x2048, .i8⟩
  | .local _ .vmem, ⟨10, _⟩ => ⟨S1x128x2048, .i8⟩
  | .local _ .vmem, ⟨11, _⟩ => ⟨S1x128x2048, .i8⟩
  | .local _ .vmem, ⟨12, _⟩ => ⟨S1x32x4, .f32⟩
  | .local _ .vmem, ⟨13, _⟩ => ⟨S1x32x4, .f32⟩
  | .local _ .vmem, ⟨14, _⟩ => ⟨S1x32x4, .f32⟩
  | .local _ .vmem, ⟨15, _⟩ => ⟨S1x32x4, .f32⟩
  | .local _ .vmem, ⟨16, _⟩ => ⟨S1x32x8192, .bf16⟩
  | .local _ .vmem, ⟨17, _⟩ => ⟨S1x32x8192, .bf16⟩
  | .local _ .vmem, ⟨18, _⟩ => ⟨S1x128x2048, .i8⟩
  | .local _ .vmem, ⟨19, _⟩ => ⟨S1x128x2048, .i8⟩
  | .local _ .vmem, ⟨20, _⟩ => ⟨S1x128x2048, .i8⟩
  | .local _ .vmem, ⟨21, _⟩ => ⟨S1x128x2048, .i8⟩
  | .local _ .vmem, ⟨22, _⟩ => ⟨S1x32x4, .f32⟩
  | .local _ .vmem, ⟨23, _⟩ => ⟨S1x32x4, .f32⟩
  | .local _ .vmem, ⟨24, _⟩ => ⟨S1x32x4, .f32⟩
  | .local _ .vmem, ⟨25, _⟩ => ⟨S1x32x4, .f32⟩
  | .local _ .vmem, ⟨26, _⟩ => ⟨S32x8192, .f32⟩
  | .local _ .vmem, ⟨27, _⟩ => ⟨S32x8192, .f32⟩
  | _, _ => ⟨S3x640x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![3, 20], ![false, false]⟩

@[reducible] def k0_t1_loop : Scf.Loop 32 :=
  let c0_i32 : BitVec 32 := 0#32
  let c2_i32 : BitVec 32 := 2#32
  let v32 : BitVec 32 := Scalar.addi c0_i32 c2_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c16_i32 : BitVec 32 := 16#32
  let v33 : BitVec 32 := Scalar.muli arg19 c16_i32
  v33
def k0_mult2 (k0_t1 : Fin k0_t1_loop.trips) : BitVec 32 :=
  let c0_i32 : BitVec 32 := 0#32
  let c1_i32 : BitVec 32 := 1#32
  let arg19 : BitVec 32 := Scf.iv c0_i32 c1_i32 k0_t1
  let c16_i32_15 : BitVec 32 := 16#32
  let v35 : BitVec 32 := Scalar.muli arg19 c16_i32_15
  let c4_i32 : BitVec 32 := 4#32
  let v36 : BitVec 32 := Scalar.muli v35 c4_i32
  v36
def k0_off1 (k0_t1 : Fin k0_t1_loop.trips) : Fin 3 → Nat :=
  let c0_16 : Index := 0#32
  let c0_i32 : BitVec 32 := 0#32
  let c1_i32 : BitVec 32 := 1#32
  let arg19 : BitVec 32 := Scf.iv c0_i32 c1_i32 k0_t1
  let c16_i32 : BitVec 32 := 16#32
  let v33 : BitVec 32 := Scalar.muli arg19 c16_i32
  let v34 : BitVec 32 := v33
  let v38 : Index := Scalar.indexCast v34
  let c0_17 : Index := 0#32
  ![0, v38.toNat, 0]
def k0_off2 (k0_t1 : Fin k0_t1_loop.trips) : Fin 3 → Nat :=
  let c0_18 : Index := 0#32
  let c0_i32 : BitVec 32 := 0#32
  let c1_i32 : BitVec 32 := 1#32
  let arg19 : BitVec 32 := Scf.iv c0_i32 c1_i32 k0_t1
  let c16_i32 : BitVec 32 := 16#32
  let v33 : BitVec 32 := Scalar.muli arg19 c16_i32
  let v34 : BitVec 32 := v33
  let v41 : Index := Scalar.indexCast v34
  let c1_19 : Index := 1#32
  ![0, v41.toNat, 1]
def k0_off3 (k0_t1 : Fin k0_t1_loop.trips) : Fin 3 → Nat :=
  let c0_20 : Index := 0#32
  let c0_i32 : BitVec 32 := 0#32
  let c1_i32 : BitVec 32 := 1#32
  let arg19 : BitVec 32 := Scf.iv c0_i32 c1_i32 k0_t1
  let c16_i32 : BitVec 32 := 16#32
  let v33 : BitVec 32 := Scalar.muli arg19 c16_i32
  let v34 : BitVec 32 := v33
  let v44 : Index := Scalar.indexCast v34
  let c2 : Index := 2#32
  ![0, v44.toNat, 2]
def k0_off4 (k0_t1 : Fin k0_t1_loop.trips) : Fin 3 → Nat :=
  let c0_21 : Index := 0#32
  let c0_i32 : BitVec 32 := 0#32
  let c1_i32 : BitVec 32 := 1#32
  let arg19 : BitVec 32 := Scf.iv c0_i32 c1_i32 k0_t1
  let c16_i32 : BitVec 32 := 16#32
  let v33 : BitVec 32 := Scalar.muli arg19 c16_i32
  let v34 : BitVec 32 := v33
  let v47 : Index := Scalar.indexCast v34
  let c3 : Index := 3#32
  ![0, v47.toNat, 3]
@[reducible] def k0_t2_loop : Scf.Loop 32 :=
  let c0_i32_30 : BitVec 32 := 0#32
  let c16_i32_31 : BitVec 32 := 16#32
  let v63 : BitVec 32 := Scalar.addi c0_i32_30 c16_i32_31
  let c1_i32_32 : BitVec 32 := 1#32
  ⟨c0_i32_30, v63, c1_i32_32⟩
def k0_mult3 (k0_t2 : Fin k0_t2_loop.trips) : BitVec 32 :=
  let c0_i32_30 : BitVec 32 := 0#32
  let c1_i32_32 : BitVec 32 := 1#32
  let arg20 : BitVec 32 := Scf.iv c0_i32_30 c1_i32_32 k0_t2
  let c128_i32 : BitVec 32 := 128#32
  let v162 : BitVec 32 := Scalar.muli arg20 c128_i32
  v162
def k0_off5 (k0_t1 : Fin k0_t1_loop.trips) (k0_t2 : Fin k0_t2_loop.trips) : Fin 3 → Nat :=
  let c0_86 : Index := 0#32
  let c0_i32 : BitVec 32 := 0#32
  let c1_i32 : BitVec 32 := 1#32
  let arg19 : BitVec 32 := Scf.iv c0_i32 c1_i32 k0_t1
  let c16_i32_15 : BitVec 32 := 16#32
  let v35 : BitVec 32 := Scalar.muli arg19 c16_i32_15
  let c4_i32 : BitVec 32 := 4#32
  let v36 : BitVec 32 := Scalar.muli v35 c4_i32
  let v37 : BitVec 32 := v36
  let v164 : Index := Scalar.indexCast v37
  let c0_i32_30 : BitVec 32 := 0#32
  let c1_i32_32 : BitVec 32 := 1#32
  let arg20 : BitVec 32 := Scf.iv c0_i32_30 c1_i32_32 k0_t2
  let c128_i32 : BitVec 32 := 128#32
  let v162 : BitVec 32 := Scalar.muli arg20 c128_i32
  let v163 : BitVec 32 := v162
  let v165 : Index := Scalar.indexCast v163
  ![0, v164.toNat, v165.toNat]
def k0_mult4 (k0_t2 : Fin k0_t2_loop.trips) : BitVec 32 :=
  let c0_i32_88 : BitVec 32 := 0#32
  let c0_i32_30 : BitVec 32 := 0#32
  let c1_i32_32 : BitVec 32 := 1#32
  let arg20 : BitVec 32 := Scf.iv c0_i32_30 c1_i32_32 k0_t2
  let c128_i32 : BitVec 32 := 128#32
  let v162 : BitVec 32 := Scalar.muli arg20 c128_i32
  let v163 : BitVec 32 := v162
  let v174 : BitVec 32 := Scalar.addi c0_i32_88 v163
  v174
def k0_off6 (k0_t1 : Fin k0_t1_loop.trips) (k0_t2 : Fin k0_t2_loop.trips) (c0_i32_88 : BitVec 32) : Fin 3 → Nat :=
  let c0_95 : Index := 0#32
  let c0_i32 : BitVec 32 := 0#32
  let c1_i32 : BitVec 32 := 1#32
  let arg19 : BitVec 32 := Scf.iv c0_i32 c1_i32 k0_t1
  let c16_i32 : BitVec 32 := 16#32
  let v33 : BitVec 32 := Scalar.muli arg19 c16_i32
  let v34 : BitVec 32 := v33
  let v210 : Index := Scalar.indexCast v34
  let c0_i32_30 : BitVec 32 := 0#32
  let c1_i32_32 : BitVec 32 := 1#32
  let arg20 : BitVec 32 := Scf.iv c0_i32_30 c1_i32_32 k0_t2
  let c128_i32 : BitVec 32 := 128#32
  let v162 : BitVec 32 := Scalar.muli arg20 c128_i32
  let v163 : BitVec 32 := v162
  let v174 : BitVec 32 := Scalar.addi c0_i32_88 v163
  let v175 : BitVec 32 := v174
  let v211 : Index := Scalar.indexCast v175
  ![0, v210.toNat, v211.toNat]
def k0_off7 (k0_t1 : Fin k0_t1_loop.trips) (k0_t2 : Fin k0_t2_loop.trips) (c0_i32_88 : BitVec 32) : Fin 2 → Nat :=
  let c0_i32 : BitVec 32 := 0#32
  let c1_i32 : BitVec 32 := 1#32
  let arg19 : BitVec 32 := Scf.iv c0_i32 c1_i32 k0_t1
  let c16_i32 : BitVec 32 := 16#32
  let v33 : BitVec 32 := Scalar.muli arg19 c16_i32
  let v34 : BitVec 32 := v33
  let v246 : Index := Scalar.indexCast v34
  let c0_i32_30 : BitVec 32 := 0#32
  let c1_i32_32 : BitVec 32 := 1#32
  let arg20 : BitVec 32 := Scf.iv c0_i32_30 c1_i32_32 k0_t2
  let c128_i32 : BitVec 32 := 128#32
  let v162 : BitVec 32 := Scalar.muli arg20 c128_i32
  let v163 : BitVec 32 := v162
  let v174 : BitVec 32 := Scalar.addi c0_i32_88 v163
  let v175 : BitVec 32 := v174
  let v247 : Index := Scalar.indexCast v175
  ![v246.toNat, v247.toNat]
def k0_mult5 (k0_t2 : Fin k0_t2_loop.trips) : BitVec 32 :=
  let c2048_i32 : BitVec 32 := 2048#32
  let c0_i32_30 : BitVec 32 := 0#32
  let c1_i32_32 : BitVec 32 := 1#32
  let arg20 : BitVec 32 := Scf.iv c0_i32_30 c1_i32_32 k0_t2
  let c128_i32 : BitVec 32 := 128#32
  let v162 : BitVec 32 := Scalar.muli arg20 c128_i32
  let v163 : BitVec 32 := v162
  let v260 : BitVec 32 := Scalar.addi c2048_i32 v163
  v260
def k0_mult6 (k0_t2 : Fin k0_t2_loop.trips) : BitVec 32 :=
  let c4096_i32 : BitVec 32 := 4096#32
  let c0_i32_30 : BitVec 32 := 0#32
  let c1_i32_32 : BitVec 32 := 1#32
  let arg20 : BitVec 32 := Scf.iv c0_i32_30 c1_i32_32 k0_t2
  let c128_i32 : BitVec 32 := 128#32
  let v162 : BitVec 32 := Scalar.muli arg20 c128_i32
  let v163 : BitVec 32 := v162
  let v346 : BitVec 32 := Scalar.addi c4096_i32 v163
  v346
def k0_mult7 (k0_t2 : Fin k0_t2_loop.trips) : BitVec 32 :=
  let c6144_i32 : BitVec 32 := 6144#32
  let c0_i32_30 : BitVec 32 := 0#32
  let c1_i32_32 : BitVec 32 := 1#32
  let arg20 : BitVec 32 := Scf.iv c0_i32_30 c1_i32_32 k0_t2
  let c128_i32 : BitVec 32 := 128#32
  let v162 : BitVec 32 := Scalar.muli arg20 c128_i32
  let v163 : BitVec 32 := v162
  let v432 : BitVec 32 := Scalar.addi c6144_i32 v163
  v432
@[reducible] def k0_t3_loop : Scf.Loop 32 :=
  let c0_i32_82 : BitVec 32 := 0#32
  let c16_i32_83 : BitVec 32 := 16#32
  let v161 : BitVec 32 := Scalar.addi c0_i32_82 c16_i32_83
  let c1_i32_84 : BitVec 32 := 1#32
  ⟨c0_i32_82, v161, c1_i32_84⟩
def k0_mult8 (k0_t3 : Fin k0_t3_loop.trips) : BitVec 32 :=
  let c0_i32_82 : BitVec 32 := 0#32
  let c1_i32_84 : BitVec 32 := 1#32
  let arg20 : BitVec 32 := Scf.iv c0_i32_82 c1_i32_84 k0_t3
  let c128_i32 : BitVec 32 := 128#32
  let v162 : BitVec 32 := Scalar.muli arg20 c128_i32
  v162
def k0_mult9 (k0_t3 : Fin k0_t3_loop.trips) : BitVec 32 :=
  let c0_i32_86 : BitVec 32 := 0#32
  let c0_i32_82 : BitVec 32 := 0#32
  let c1_i32_84 : BitVec 32 := 1#32
  let arg20 : BitVec 32 := Scf.iv c0_i32_82 c1_i32_84 k0_t3
  let c128_i32 : BitVec 32 := 128#32
  let v162 : BitVec 32 := Scalar.muli arg20 c128_i32
  let v163 : BitVec 32 := v162
  let v164 : BitVec 32 := Scalar.addi c0_i32_86 v163
  v164
def k0_off8 (k0_t1 : Fin k0_t1_loop.trips) (k0_t3 : Fin k0_t3_loop.trips) (c0_i32_86 : BitVec 32) : Fin 2 → Nat :=
  let c0_i32 : BitVec 32 := 0#32
  let c1_i32 : BitVec 32 := 1#32
  let arg19 : BitVec 32 := Scf.iv c0_i32 c1_i32 k0_t1
  let c16_i32 : BitVec 32 := 16#32
  let v33 : BitVec 32 := Scalar.muli arg19 c16_i32
  let v34 : BitVec 32 := v33
  let v166 : Index := Scalar.indexCast v34
  let c0_i32_82 : BitVec 32 := 0#32
  let c1_i32_84 : BitVec 32 := 1#32
  let arg20 : BitVec 32 := Scf.iv c0_i32_82 c1_i32_84 k0_t3
  let c128_i32 : BitVec 32 := 128#32
  let v162 : BitVec 32 := Scalar.muli arg20 c128_i32
  let v163 : BitVec 32 := v162
  let v164 : BitVec 32 := Scalar.addi c0_i32_86 v163
  let v165 : BitVec 32 := v164
  let v167 : Index := Scalar.indexCast v165
  ![v166.toNat, v167.toNat]
def k0_mult10 (k0_t3 : Fin k0_t3_loop.trips) : BitVec 32 :=
  let c2048_i32 : BitVec 32 := 2048#32
  let c0_i32_82 : BitVec 32 := 0#32
  let c1_i32_84 : BitVec 32 := 1#32
  let arg20 : BitVec 32 := Scf.iv c0_i32_82 c1_i32_84 k0_t3
  let c128_i32 : BitVec 32 := 128#32
  let v162 : BitVec 32 := Scalar.muli arg20 c128_i32
  let v163 : BitVec 32 := v162
  let v454 : BitVec 32 := Scalar.addi c2048_i32 v163
  v454
def k0_mult11 (k0_t3 : Fin k0_t3_loop.trips) : BitVec 32 :=
  let c4096_i32 : BitVec 32 := 4096#32
  let c0_i32_82 : BitVec 32 := 0#32
  let c1_i32_84 : BitVec 32 := 1#32
  let arg20 : BitVec 32 := Scf.iv c0_i32_82 c1_i32_84 k0_t3
  let c128_i32 : BitVec 32 := 128#32
  let v162 : BitVec 32 := Scalar.muli arg20 c128_i32
  let v163 : BitVec 32 := v162
  let v746 : BitVec 32 := Scalar.addi c4096_i32 v163
  v746
def k0_mult12 (k0_t3 : Fin k0_t3_loop.trips) : BitVec 32 :=
  let c6144_i32 : BitVec 32 := 6144#32
  let c0_i32_82 : BitVec 32 := 0#32
  let c1_i32_84 : BitVec 32 := 1#32
  let arg20 : BitVec 32 := Scf.iv c0_i32_82 c1_i32_84 k0_t3
  let c128_i32 : BitVec 32 := 128#32
  let v162 : BitVec 32 := Scalar.muli arg20 c128_i32
  let v163 : BitVec 32 := v162
  let v1038 : BitVec 32 := Scalar.addi c6144_i32 v163
  v1038
def k0_off9 (k0_t1 : Fin k0_t1_loop.trips) (k0_t3 : Fin k0_t3_loop.trips) : Fin 3 → Nat :=
  let c0_349 : Index := 0#32
  let c0_i32 : BitVec 32 := 0#32
  let c1_i32 : BitVec 32 := 1#32
  let arg19 : BitVec 32 := Scf.iv c0_i32 c1_i32 k0_t1
  let c16_i32_15 : BitVec 32 := 16#32
  let v35 : BitVec 32 := Scalar.muli arg19 c16_i32_15
  let c4_i32 : BitVec 32 := 4#32
  let v36 : BitVec 32 := Scalar.muli v35 c4_i32
  let v37 : BitVec 32 := v36
  let v1331 : Index := Scalar.indexCast v37
  let c0_i32_82 : BitVec 32 := 0#32
  let c1_i32_84 : BitVec 32 := 1#32
  let arg20 : BitVec 32 := Scf.iv c0_i32_82 c1_i32_84 k0_t3
  let c128_i32 : BitVec 32 := 128#32
  let v162 : BitVec 32 := Scalar.muli arg20 c128_i32
  let v163 : BitVec 32 := v162
  let v1332 : Index := Scalar.indexCast v163
  ![0, v1331.toNat, v1332.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2048 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x2048 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S3x640x8192 : Shape := ⟨3, ![3, 640, 8192]⟩
abbrev S3x2560x2048 : Shape := ⟨3, ![3, 2560, 2048]⟩
abbrev S3x2560 : Shape := ⟨2, ![3, 2560]⟩
abbrev S256 : Shape := ⟨1, ![256]⟩
abbrev S3x2560x2048x1 : Shape := ⟨4, ![3, 2560, 2048, 1]⟩
abbrev S3x2560x1 : Shape := ⟨3, ![3, 2560, 1]⟩
abbrev S_ : Shape := ⟨0, ![]⟩
abbrev S255 : Shape := ⟨1, ![255]⟩
abbrev S1x1x1x255 : Shape := ⟨4, ![1, 1, 1, 255]⟩
abbrev S3x2560x2048x255 : Shape := ⟨4, ![3, 2560, 2048, 255]⟩

abbrev nBuf : Space → Nat
  | .hbm => 121
  | .vmem => 0
  | .smem => 0
  | _ => 0

abbrev bufTy : (tb : Table) → Fin (tcTables nBuf tb) → BufTy
  | .hbm, ⟨0, _⟩ => ⟨S3x640x8192, .bf16⟩
  | .hbm, ⟨1, _⟩ => ⟨S3x640x8192, .bf16⟩
  | .hbm, ⟨2, _⟩ => ⟨S3x2560x2048, .i8⟩
  | .hbm, ⟨3, _⟩ => ⟨S3x2560, .f32⟩
  | .hbm, ⟨4, _⟩ => ⟨S3x2560x2048, .i8⟩
  | .hbm, ⟨5, _⟩ => ⟨S3x2560, .f32⟩
  | .hbm, ⟨6, _⟩ => ⟨S256, .f32⟩
  | .hbm, ⟨7, _⟩ => ⟨S256, .f32⟩
  | .hbm, ⟨8, _⟩ => ⟨S3x2560x2048, .i32⟩
  | .hbm, ⟨9, _⟩ => ⟨S3x2560x2048x1, .i32⟩
  | .hbm, ⟨10, _⟩ => ⟨S3x2560x2048, .f32⟩
  | .hbm, ⟨11, _⟩ => ⟨S3x2560x1, .f32⟩
  | .hbm, ⟨12, _⟩ => ⟨S3x2560x2048, .f32⟩
  | .hbm, ⟨13, _⟩ => ⟨S3x2560x2048, .f32⟩
  | .hbm, ⟨14, _⟩ => ⟨S3x2560x2048, .i32⟩
  | .hbm, ⟨15, _⟩ => ⟨S3x2560x2048x1, .i32⟩
  | .hbm, ⟨16, _⟩ => ⟨S3x2560x2048, .f32⟩
  | .hbm, ⟨17, _⟩ => ⟨S3x2560x1, .f32⟩
  | .hbm, ⟨18, _⟩ => ⟨S3x2560x2048, .f32⟩
  | .hbm, ⟨19, _⟩ => ⟨S3x2560x2048, .f32⟩
  | .hbm, ⟨20, _⟩ => ⟨S3x2560x2048, .bf16⟩
  | .hbm, ⟨21, _⟩ => ⟨S3x2560x2048, .f32⟩
  | .hbm, ⟨22, _⟩ => ⟨S3x2560x2048, .bf16⟩
  | .hbm, ⟨23, _⟩ => ⟨S3x2560x2048, .f32⟩
  | .hbm, ⟨24, _⟩ => ⟨S_, .f32⟩
  | .hbm, ⟨25, _⟩ => ⟨S3x2560x2048, .f32⟩
  | .hbm, ⟨26, _⟩ => ⟨S3x2560x2048, .f32⟩
  | .hbm, ⟨27, _⟩ => ⟨S_, .f32⟩
  | .hbm, ⟨28, _⟩ => ⟨S3x2560x2048, .f32⟩
  | .hbm, ⟨29, _⟩ => ⟨S3x2560x2048, .f32⟩
  | .hbm, ⟨30, _⟩ => ⟨S3x2560x2048, .f32⟩
  | .hbm, ⟨31, _⟩ => ⟨S_, .f32⟩
  | .hbm, ⟨32, _⟩ => ⟨S3x2560x2048, .f32⟩
  | .hbm, ⟨33, _⟩ => ⟨S3x2560x2048, .f32⟩
  | .hbm, ⟨34, _⟩ => ⟨S_, .f32⟩
  | .hbm, ⟨35, _⟩ => ⟨S3x2560x2048, .f32⟩
  | .hbm, ⟨36, _⟩ => ⟨S3x2560x2048, .f32⟩
  | .hbm, ⟨37, _⟩ => ⟨S3x2560x2048, .f32⟩
  | .hbm, ⟨38, _⟩ => ⟨S3x2560x2048, .f32⟩
  | .hbm, ⟨39, _⟩ => ⟨S_, .f32⟩
  | .hbm, ⟨40, _⟩ => ⟨S3x2560x2048, .f32⟩
  | .hbm, ⟨41, _⟩ => ⟨S3x2560x2048, .f32⟩
  | .hbm, ⟨42, _⟩ => ⟨S_, .f32⟩
  | .hbm, ⟨43, _⟩ => ⟨S3x2560x2048, .f32⟩
  | .hbm, ⟨44, _⟩ => ⟨S3x2560x2048, .f32⟩
  | .hbm, ⟨45, _⟩ => ⟨S3x2560x2048, .f32⟩
  | .hbm, ⟨46, _⟩ => ⟨S_, .f32⟩
  | .hbm, ⟨47, _⟩ => ⟨S3x2560x2048, .f32⟩
  | .hbm, ⟨48, _⟩ => ⟨S3x2560x2048, .f32⟩
  | .hbm, ⟨49, _⟩ => ⟨S3x2560x2048, .f32⟩
  | .hbm, ⟨50, _⟩ => ⟨S3x2560x2048, .f32⟩
  | .hbm, ⟨51, _⟩ => ⟨S3x2560x2048, .bf16⟩
  | .hbm, ⟨52, _⟩ => ⟨S3x2560x2048, .f32⟩
  | .hbm, ⟨53, _⟩ => ⟨S_, .f32⟩
  | .hbm, ⟨54, _⟩ => ⟨S3x2560, .f32⟩
  | .hbm, ⟨55, _⟩ => ⟨S_, .f32⟩
  | .hbm, ⟨56, _⟩ => ⟨S3x2560, .f32⟩
  | .hbm, ⟨57, _⟩ => ⟨S3x2560, .i1⟩
  | .hbm, ⟨58, _⟩ => ⟨S_, .f32⟩
  | .hbm, ⟨59, _⟩ => ⟨S_, .f32⟩
  | .hbm, ⟨60, _⟩ => ⟨S3x2560, .f32⟩
  | .hbm, ⟨61, _⟩ => ⟨S3x2560, .f32⟩
  | .hbm, ⟨62, _⟩ => ⟨S3x2560x1, .i1⟩
  | .hbm, ⟨63, _⟩ => ⟨S3x2560x1, .f32⟩
  | .hbm, ⟨64, _⟩ => ⟨S3x2560x2048, .f32⟩
  | .hbm, ⟨65, _⟩ => ⟨S3x2560x2048, .f32⟩
  | .hbm, ⟨66, _⟩ => ⟨S_, .f32⟩
  | .hbm, ⟨67, _⟩ => ⟨S_, .f32⟩
  | .hbm, ⟨68, _⟩ => ⟨S3x2560x2048, .i1⟩
  | .hbm, ⟨69, _⟩ => ⟨S3x2560x2048, .f32⟩
  | .hbm, ⟨70, _⟩ => ⟨S3x2560x2048, .f32⟩
  | .hbm, ⟨71, _⟩ => ⟨S255, .f32⟩
  | .hbm, ⟨72, _⟩ => ⟨S255, .f32⟩
  | .hbm, ⟨73, _⟩ => ⟨S255, .f32⟩
  | .hbm, ⟨74, _⟩ => ⟨S_, .f32⟩
  | .hbm, ⟨75, _⟩ => ⟨S255, .f32⟩
  | .hbm, ⟨76, _⟩ => ⟨S255, .f32⟩
  | .hbm, ⟨77, _⟩ => ⟨S3x2560x2048x1, .f32⟩
  | .hbm, ⟨78, _⟩ => ⟨S1x1x1x255, .f32⟩
  | .hbm, ⟨79, _⟩ => ⟨S3x2560x2048x255, .f32⟩
  | .hbm, ⟨80, _⟩ => ⟨S3x2560x2048x255, .f32⟩
  | .hbm, ⟨81, _⟩ => ⟨S3x2560x2048x255, .i1⟩
  | .hbm, ⟨82, _⟩ => ⟨S3x2560x2048x255, .i32⟩
  | .hbm, ⟨83, _⟩ => ⟨S_, .i32⟩
  | .hbm, ⟨84, _⟩ => ⟨S3x2560x2048, .i32⟩
  | .hbm, ⟨85, _⟩ => ⟨S3x2560x2048, .i8⟩
  | .hbm, ⟨86, _⟩ => ⟨S3x2560x2048, .f32⟩
  | .hbm, ⟨87, _⟩ => ⟨S_, .f32⟩
  | .hbm, ⟨88, _⟩ => ⟨S3x2560, .f32⟩
  | .hbm, ⟨89, _⟩ => ⟨S_, .f32⟩
  | .hbm, ⟨90, _⟩ => ⟨S3x2560, .f32⟩
  | .hbm, ⟨91, _⟩ => ⟨S3x2560, .i1⟩
  | .hbm, ⟨92, _⟩ => ⟨S_, .f32⟩
  | .hbm, ⟨93, _⟩ => ⟨S_, .f32⟩
  | .hbm, ⟨94, _⟩ => ⟨S3x2560, .f32⟩
  | .hbm, ⟨95, _⟩ => ⟨S3x2560, .f32⟩
  | .hbm, ⟨96, _⟩ => ⟨S3x2560x1, .i1⟩
  | .hbm, ⟨97, _⟩ => ⟨S3x2560x1, .f32⟩
  | .hbm, ⟨98, _⟩ => ⟨S3x2560x2048, .f32⟩
  | .hbm, ⟨99, _⟩ => ⟨S3x2560x2048, .f32⟩
  | .hbm, ⟨100, _⟩ => ⟨S_, .f32⟩
  | .hbm, ⟨101, _⟩ => ⟨S_, .f32⟩
  | .hbm, ⟨102, _⟩ => ⟨S3x2560x2048, .i1⟩
  | .hbm, ⟨103, _⟩ => ⟨S3x2560x2048, .f32⟩
  | .hbm, ⟨104, _⟩ => ⟨S3x2560x2048, .f32⟩
  | .hbm, ⟨105, _⟩ => ⟨S255, .f32⟩
  | .hbm, ⟨106, _⟩ => ⟨S255, .f32⟩
  | .hbm, ⟨107, _⟩ => ⟨S255, .f32⟩
  | .hbm, ⟨108, _⟩ => ⟨S_, .f32⟩
  | .hbm, ⟨109, _⟩ => ⟨S255, .f32⟩
  | .hbm, ⟨110, _⟩ => ⟨S255, .f32⟩
  | .hbm, ⟨111, _⟩ => ⟨S3x2560x2048x1, .f32⟩
  | .hbm, ⟨112, _⟩ => ⟨S1x1x1x255, .f32⟩
  | .hbm, ⟨113, _⟩ => ⟨S3x2560x2048x255, .f32⟩
  | .hbm, ⟨114, _⟩ => ⟨S3x2560x2048x255, .f32⟩
  | .hbm, ⟨115, _⟩ => ⟨S3x2560x2048x255, .i1⟩
  | .hbm, ⟨116, _⟩ => ⟨S3x2560x2048x255, .i32⟩
  | .hbm, ⟨117, _⟩ => ⟨S_, .i32⟩
  | .hbm, ⟨118, _⟩ => ⟨S3x2560x2048, .i32⟩
  | .hbm, ⟨119, _⟩ => ⟨S3x2560x2048, .i8⟩
  | .hbm, ⟨120, _⟩ => ⟨S3x640x8192, .bf16⟩
  | _, _ => ⟨S3x640x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_call2_v0 : Ref sig .tc := ⟨.hbm, 59, rfl⟩
abbrev main_call2_v1 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_call4_v0 : Ref sig .tc := ⟨.hbm, 93, rfl⟩
abbrev main_call4_v1 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_14 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_16 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== Proof.K.Trip.lean ====
module

public import proofs.«01_k».proof.Proof.Gen.Kernel.Frame
public import proofs.«01_k».proof.Proof.Gen.Kernel.Loops

/-! One trip of the kernel's outer loop (a group of sixteen rows): what it writes, as the lists of rectangles and values
that running its program gives. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD)
  (i : grid0.Coords) (arg2 : Memref sig .tc .vmem S2x128 .f32) (harg2 : arg2.IsWhole)
  (arg3 : Memref sig .tc .vmem S2x128 .f32) (harg3 : arg3.IsWhole) (arg4 : Memref sig .tc .vmem S2x128 .f32)
  (harg4 : arg4.IsWhole) (arg5 : Memref sig .tc .vmem S2x128 .f32) (harg5 : arg5.IsWhole)
  (arg6 : Memref sig .tc .vmem S1x32x8192 .bf16) (harg6 : arg6.IsWhole) (arg7 : Memref sig .tc .vmem S1x32x8192 .bf16)
  (harg7 : arg7.IsWhole) (arg8 : Memref sig .tc .vmem S1x128x2048 .i8) (harg8 : arg8.IsWhole)
  (arg9 : Memref sig .tc .vmem S1x128x2048 .i8) (harg9 : arg9.IsWhole) (arg10 : Memref sig .tc .vmem S1x32x4 .f32)
  (harg10 : arg10.IsWhole) (arg11 : Memref sig .tc .vmem S1x32x4 .f32) (harg11 : arg11.IsWhole)
  (arg12 : Memref sig .tc .vmem S1x32x8192 .bf16) (harg12 : arg12.IsWhole) (arg13 : Memref sig .tc .vmem S1x128x2048 .i8)
  (harg13 : arg13.IsWhole) (arg14 : Memref sig .tc .vmem S1x128x2048 .i8) (harg14 : arg14.IsWhole)
  (arg15 : Memref sig .tc .vmem S1x32x4 .f32) (harg15 : arg15.IsWhole) (arg16 : Memref sig .tc .vmem S1x32x4 .f32)
  (harg16 : arg16.IsWhole) (arg17 : Memref sig .tc .vmem S32x8192 .f32) (harg17 : arg17.IsWhole)
  (arg18 : Memref sig .tc .vmem S32x8192 .f32) (harg18 : arg18.IsWhole) (v0 : Vec F S1x128 .f32) (v4 : Vec F S1x128 .f32)
  (v8 : Vec F S1x128 .f32) (v12 : Vec F S1x128 .f32) (v16 : Vec F S1x128 .f32) (v20 : Vec F S1x128 .f32)
  (v24 : Vec F S1x128 .f32) (v28 : Vec F S1x128 .f32)

/-- The buffers one trip touches: the six it reads at their contents, the five results and the two scratch buffers at
`f12` … `f18`. -/
abbrev Held (X6 : BufTy.Contents (Elt F) arg6.view.ty) (X7 : BufTy.Contents (Elt F) arg7.view.ty)
    (X8 : BufTy.Contents (Elt F) arg8.view.ty) (X9 : BufTy.Contents (Elt F) arg9.view.ty)
    (X10 : BufTy.Contents (Elt F) arg10.view.ty) (X11 : BufTy.Contents (Elt F) arg11.view.ty)
    (f12 : BufTy.Contents (Elt F) arg12.view.ty) (f13 : BufTy.Contents (Elt F) arg13.view.ty)
    (f14 : BufTy.Contents (Elt F) arg14.view.ty) (f15 : BufTy.Contents (Elt F) arg15.view.ty)
    (f16 : BufTy.Contents (Elt F) arg16.view.ty) (f17 : BufTy.Contents (Elt F) arg17.view.ty)
    (f18 : BufTy.Contents (Elt F) arg18.view.ty) : sProp 𝕄 :=
  iprop((arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} f12)
    ∗ (arg13.view.loc (c : Thread nD τ) ↦[arg13.view.set]{fullShare} f13)
    ∗ (arg14.view.loc (c : Thread nD τ) ↦[arg14.view.set]{fullShare} f14)
    ∗ (arg15.view.loc (c : Thread nD τ) ↦[arg15.view.set]{fullShare} f15)
    ∗ (arg16.view.loc (c : Thread nD τ) ↦[arg16.view.set]{fullShare} f16)
    ∗ (arg17.view.loc (c : Thread nD τ) ↦[arg17.view.set]{fullShare} f17)
    ∗ (arg18.view.loc (c : Thread nD τ) ↦[arg18.view.set]{fullShare} f18))

set_option maxHeartbeats 8000000 in
/-- One trip of the outer loop run at a symbolic trip: the pieces it writes into each of the seven buffers. -/
@[irreducible] def trip (k : Fin k0_t1_loop.trips)
    (X6 : BufTy.Contents (Elt F) arg6.view.ty) (X7 : BufTy.Contents (Elt F) arg7.view.ty)
    (X8 : BufTy.Contents (Elt F) arg8.view.ty) (X9 : BufTy.Contents (Elt F) arg9.view.ty)
    (X10 : BufTy.Contents (Elt F) arg10.view.ty) (X11 : BufTy.Contents (Elt F) arg11.view.ty)
    (f17 : BufTy.Contents (Elt F) arg17.view.ty) (f18 : BufTy.Contents (Elt F) arg18.view.ty) :
    Σ' (L12 : List (View.Piece (Elt F) S1x32x8192 .bf16)) (L13 : List (View.Piece (Elt F) S1x128x2048 .i8))
      (L14 : List (View.Piece (Elt F) S1x128x2048 .i8)) (L15 : List (View.Piece (Elt F) S1x32x4 .f32))
      (L16 : List (View.Piece (Elt F) S1x32x4 .f32)) (L17 : List (View.Piece (Elt F) S32x8192 .f32)),
      { L18 : List (View.Piece (Elt F) S32x8192 .f32) //
        ∀ (f12 : BufTy.Contents (Elt F) arg12.view.ty) (f13 : BufTy.Contents (Elt F) arg13.view.ty)
          (f14 : BufTy.Contents (Elt F) arg14.view.ty) (f15 : BufTy.Contents (Elt F) arg15.view.ty)
          (f16 : BufTy.Contents (Elt F) arg16.view.ty),
        Held c arg6 arg7 arg8 arg9 arg10 arg11 arg12 arg13 arg14 arg15 arg16 arg17 arg18 X6 X7 X8 X9 X10 X11 f12 f13 f14 f15 f16 f17 f18
        ⊢ wp frame (wpE (defs₀ (F := F)) Variants.none (c : Thread nD τ) none) Set.univ
            (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k PUnit.unit)
            (fun _ => Held c arg6 arg7 arg8 arg9 arg10 arg11 arg12 arg13 arg14 arg15 arg16 arg17 arg18 X6 X7 X8 X9 X10 X11
              (arg12.view.writes (Elt F) f12 L12) (arg13.view.writes (Elt F) f13 L13) (arg14.view.writes (Elt F) f14 L14)
              (arg15.view.writes (Elt F) f15 L15) (arg16.view.writes (Elt F) f16 L16) (arg17.view.writes (Elt F) f17 L17)
              (arg18.view.writes (Elt F) f18 L18)) } := by
  have hk : k.val < 2 := Nat.lt_of_lt_of_le k.isLt k0_t1_abs.2.1
  refine ⟨?_, ?_, ?_, ?_, ?_, ?_, ?_, fun f12 f13 f14 f15 f16 => ?run⟩
  case run =>
    unfold k0_t1_body
    iintro ⟨H6, H7, H8, H9, H10, H11, H12, H13, H14, H15, H16, H17, H18⟩
    sl_exec
    sl_step
    sl_close

end Cert.Kernel.Hand

end
-- ==== Proof.K.Body.lean ====
module

public import proofs.«01_k».proof.Proof.K.Trip

/-! The kernel's body on one grid point: its outer loop by an invariant over the five result blocks. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD)
  (i : grid0.Coords) (arg2 : Memref sig .tc .vmem S2x128 .f32) (harg2 : arg2.IsWhole)
  (arg3 : Memref sig .tc .vmem S2x128 .f32) (harg3 : arg3.IsWhole) (arg4 : Memref sig .tc .vmem S2x128 .f32)
  (harg4 : arg4.IsWhole) (arg5 : Memref sig .tc .vmem S2x128 .f32) (harg5 : arg5.IsWhole)
  (arg6 : Memref sig .tc .vmem S1x32x8192 .bf16) (harg6 : arg6.IsWhole) (arg7 : Memref sig .tc .vmem S1x32x8192 .bf16)
  (harg7 : arg7.IsWhole) (arg8 : Memref sig .tc .vmem S1x128x2048 .i8) (harg8 : arg8.IsWhole)
  (arg9 : Memref sig .tc .vmem S1x128x2048 .i8) (harg9 : arg9.IsWhole) (arg10 : Memref sig .tc .vmem S1x32x4 .f32)
  (harg10 : arg10.IsWhole) (arg11 : Memref sig .tc .vmem S1x32x4 .f32) (harg11 : arg11.IsWhole)
  (arg12 : Memref sig .tc .vmem S1x32x8192 .bf16) (harg12 : arg12.IsWhole) (arg13 : Memref sig .tc .vmem S1x128x2048 .i8)
  (harg13 : arg13.IsWhole) (arg14 : Memref sig .tc .vmem S1x128x2048 .i8) (harg14 : arg14.IsWhole)
  (arg15 : Memref sig .tc .vmem S1x32x4 .f32) (harg15 : arg15.IsWhole) (arg16 : Memref sig .tc .vmem S1x32x4 .f32)
  (harg16 : arg16.IsWhole) (arg17 : Memref sig .tc .vmem S32x8192 .f32) (harg17 : arg17.IsWhole)
  (arg18 : Memref sig .tc .vmem S32x8192 .f32) (harg18 : arg18.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (X8 : BufTy.Contents (Elt F) arg8.view.ty) (X9 : BufTy.Contents (Elt F) arg9.view.ty)
  (X10 : BufTy.Contents (Elt F) arg10.view.ty) (X11 : BufTy.Contents (Elt F) arg11.view.ty)
  (P : ℕ → BufTy.Contents (Elt F) arg12.view.ty →
    BufTy.Contents (Elt F) arg13.view.ty →
    BufTy.Contents (Elt F) arg14.view.ty →
    BufTy.Contents (Elt F) arg15.view.ty →
    BufTy.Contents (Elt F) arg16.view.ty → Prop)

/-- The trip of the outer loop with the eight table rows the body loads before it. -/
abbrev tripAt (k : Fin k0_t1_loop.trips) (f17 : BufTy.Contents (Elt F) arg17.view.ty) (f18 : BufTy.Contents (Elt F) arg18.view.ty) :=
  trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (arg2.view.readAt (Elt F) (Rect.unit (s := S2x128) ![0, 0] S1x128.size inb_S2x128_S1x128_0_0).toLoadRect X2)
    (arg2.view.readAt (Elt F) (Rect.unit (s := S2x128) ![1, 0] S1x128.size inb_S2x128_S1x128_1_0).toLoadRect X2)
    (arg3.view.readAt (Elt F) (Rect.unit (s := S2x128) ![0, 0] S1x128.size inb_S2x128_S1x128_0_0).toLoadRect X3)
    (arg3.view.readAt (Elt F) (Rect.unit (s := S2x128) ![1, 0] S1x128.size inb_S2x128_S1x128_1_0).toLoadRect X3)
    (arg4.view.readAt (Elt F) (Rect.unit (s := S2x128) ![0, 0] S1x128.size inb_S2x128_S1x128_0_0).toLoadRect X4)
    (arg4.view.readAt (Elt F) (Rect.unit (s := S2x128) ![1, 0] S1x128.size inb_S2x128_S1x128_1_0).toLoadRect X4)
    (arg5.view.readAt (Elt F) (Rect.unit (s := S2x128) ![0, 0] S1x128.size inb_S2x128_S1x128_0_0).toLoadRect X5)
    (arg5.view.readAt (Elt F) (Rect.unit (s := S2x128) ![1, 0] S1x128.size inb_S2x128_S1x128_1_0).toLoadRect X5)
    k X6 X7 X8 X9 X10 X11 f17 f18

/-- The five result blocks satisfy `P k` before trip `k`; everything the body reads is as it was; the scratch buffers hold
anything. -/
abbrev loopState (k : ℕ) (_u : Unit) : sProp 𝕄 :=
  iprop(∃ (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty),
    Held c arg6 arg7 arg8 arg9 arg10 arg11 arg12 arg13 arg14 arg15 arg16 arg17 arg18 X6 X7 X8 X9 X10 X11 f12 f13 f14 f15 f16 f17 f18 ∗ ⌜P k f12 f13 f14 f15 f16⌝)

set_option maxHeartbeats 8000000 in
/-- The body of the kernel at one grid point: from any contents of the results and the scratch buffers it ends with the
results satisfying `P` at the loop's trip count, if `P 0` holds of any contents and each trip preserves `P`. -/
theorem body_run (h0 : ∀ f12 f13 f14 f15 f16, P 0 f12 f13 f14 f15 f16)
    (hs : ∀ (k : Fin k0_t1_loop.trips) f12 f13 f14 f15 f16 (f17 : BufTy.Contents (Elt F) arg17.view.ty) (f18 : BufTy.Contents (Elt F) arg18.view.ty), P k f12 f13 f14 f15 f16 →
      P (k.val + 1) (arg12.view.writes (Elt F) f12 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).1)
        (arg13.view.writes (Elt F) f13 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.1)
        (arg14.view.writes (Elt F) f14 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.2.1)
        (arg15.view.writes (Elt F) f15 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.2.2.1)
        (arg16.view.writes (Elt F) f16 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.2.2.2.1))
    (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ Held c arg6 arg7 arg8 arg9 arg10 arg11 arg12 arg13 arg14 arg15 arg16 arg17 arg18 X6 X7 X8 X9 X10 X11 f12 f13 f14 f15 f16 f17 f18)
    ⊢ wp frame (wpE (defs₀ (F := F)) Variants.none (c : Thread nD τ) none) Set.univ
        (cc0_adamw8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
          ∗ loopState c arg6 arg7 arg8 arg9 arg10 arg11 arg12 arg13 arg14 arg15 arg16 arg17 arg18 X6 X7 X8 X9 X10 X11 P k0_t1_loop.trips ())) := by
  simp only [cc0_adamw8_eq_skeleton]; unfold cc0_adamw8_skel
  iintro ⟨H2, H3, H4, H5, HH⟩
  sl_exec
  sl_for (loopState c arg6 arg7 arg8 arg9 arg10 arg11 arg12 arg13 arg14 arg15 arg16 arg17 arg18 X6 X7 X8 X9 X10 X11 P) $$ [HH]
  · intro k u
    iintro ⟨%g12, %g13, %g14, %g15, %g16, %g17, %g18, HH, %hP⟩
    iapply (wp_wand_r Idealize.ShloMosaic.frame (wpE (defs₀ (F := F)) Variants.none (c : Thread nD τ) none) Set.univ)
    isplitl [HH]
    · iapply ((tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k g17 g18).2.2.2.2.2.2.2 g12 g13 g14 g15 g16)
      iexact HH
    · iintro %_ HH
      iexists _, _, _, _, _, _, _
      isplitl [HH]; · iexact HH
      ipureintro; exact hs k _ _ _ _ _ g17 g18 hP
  · iexists _, _, _, _, _, _, _
    isplitl [HH]; · iexact HH
    ipureintro; exact h0 _ _ _ _ _
  · iintro %u HH
    sl_step
    isplitl [H2]; · iexact H2
    isplitl [H3]; · iexact H3
    isplitl [H4]; · iexact H4
    isplitl [H5]; · iexact H5
    iexact HH

end Cert.Kernel.Hand

end
-- ==== Proof.K.Frame.lean ====
module

public import proofs.«01_k».proof.Proof.K.Body
public import Idealize.ShloMosaic.Lib.Pipeline.FrameSuffix
public import Idealize.ShloMosaic.Lib.Pipeline.FrameBody

/-! The frame of the program: every execution ends with the arguments as they were and every semaphore at zero. The body
is run on each grid point; what it leaves in the five results is not named here. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents after the body are not named: the five results. -/
abbrev fgt : Fin cfg0.W → Bool := fun w => decide (10 ≤ w.val)

/-- The proof data of the one pipeline on core `c`: the arrays as the region finds them, each input block left in place,
the results unnamed, the scratch buffers at any contents, nothing owed, full shares. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Dat.unnamed 10 t
    | ⟨11, _⟩ => Dat.unnamed 11 t
    | ⟨12, _⟩ => Dat.unnamed 12 t
    | ⟨13, _⟩ => Dat.unnamed 13 t
    | ⟨14, _⟩ => Dat.unnamed 14 t
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem beforeF_0 (c : Dev nD) (t : Fin cfg0.N) (d) : (datsF m 0 c).before 0 t d = iblk m c 0 t :=
  before0_0_of m (datsF m 0 c) (A_eqF m c 0) (fun _ => by dsimp only [datsF]) t d
theorem afterF_0 (c : Dev nD) (t : Fin cfg0.N) : (datsF m 0 c).after 0 t = iblk m c 0 t := by dsimp only [datsF]
theorem beforeF_1 (c : Dev nD) (t : Fin cfg0.N) (d) : (datsF m 0 c).before 1 t d = iblk m c 1 t :=
  before0_1_of m (datsF m 0 c) (A_eqF m c 1) (fun _ => by dsimp only [datsF]) t d
theorem afterF_1 (c : Dev nD) (t : Fin cfg0.N) : (datsF m 0 c).after 1 t = iblk m c 1 t := by dsimp only [datsF]
theorem beforeF_2 (c : Dev nD) (t : Fin cfg0.N) (d) : (datsF m 0 c).before 2 t d = iblk m c 2 t :=
  before0_2_of m (datsF m 0 c) (A_eqF m c 2) (fun _ => by dsimp only [datsF]) t d
theorem afterF_2 (c : Dev nD) (t : Fin cfg0.N) : (datsF m 0 c).after 2 t = iblk m c 2 t := by dsimp only [datsF]
theorem beforeF_3 (c : Dev nD) (t : Fin cfg0.N) (d) : (datsF m 0 c).before 3 t d = iblk m c 3 t :=
  before0_3_of m (datsF m 0 c) (A_eqF m c 3) (fun _ => by dsimp only [datsF]) t d
theorem afterF_3 (c : Dev nD) (t : Fin cfg0.N) : (datsF m 0 c).after 3 t = iblk m c 3 t := by dsimp only [datsF]
theorem beforeF_4 (c : Dev nD) (t : Fin cfg0.N) (d) : (datsF m 0 c).before 4 t d = iblk m c 4 t :=
  before0_4_of m (datsF m 0 c) (A_eqF m c 4) (fun _ => by dsimp only [datsF]) t d
theorem afterF_4 (c : Dev nD) (t : Fin cfg0.N) : (datsF m 0 c).after 4 t = iblk m c 4 t := by dsimp only [datsF]
theorem beforeF_5 (c : Dev nD) (t : Fin cfg0.N) (d) : (datsF m 0 c).before 5 t d = iblk m c 5 t :=
  before0_5_of m (datsF m 0 c) (A_eqF m c 5) (fun _ => by dsimp only [datsF]) t d
theorem afterF_5 (c : Dev nD) (t : Fin cfg0.N) : (datsF m 0 c).after 5 t = iblk m c 5 t := by dsimp only [datsF]
theorem beforeF_6 (c : Dev nD) (t : Fin cfg0.N) (d) : (datsF m 0 c).before 6 t d = iblk m c 6 t :=
  before0_6_of m (datsF m 0 c) (A_eqF m c 6) (fun _ => by dsimp only [datsF]) t d
theorem afterF_6 (c : Dev nD) (t : Fin cfg0.N) : (datsF m 0 c).after 6 t = iblk m c 6 t := by dsimp only [datsF]
theorem beforeF_7 (c : Dev nD) (t : Fin cfg0.N) (d) : (datsF m 0 c).before 7 t d = iblk m c 7 t :=
  before0_7_of m (datsF m 0 c) (A_eqF m c 7) (fun _ => by dsimp only [datsF]) t d
theorem afterF_7 (c : Dev nD) (t : Fin cfg0.N) : (datsF m 0 c).after 7 t = iblk m c 7 t := by dsimp only [datsF]
theorem beforeF_8 (c : Dev nD) (t : Fin cfg0.N) (d) : (datsF m 0 c).before 8 t d = iblk m c 8 t :=
  before0_8_of m (datsF m 0 c) (A_eqF m c 8) (fun _ => by dsimp only [datsF]) t d
theorem afterF_8 (c : Dev nD) (t : Fin cfg0.N) : (datsF m 0 c).after 8 t = iblk m c 8 t := by dsimp only [datsF]
theorem beforeF_9 (c : Dev nD) (t : Fin cfg0.N) (d) : (datsF m 0 c).before 9 t d = iblk m c 9 t :=
  before0_9_of m (datsF m 0 c) (A_eqF m c 9) (fun _ => by dsimp only [datsF]) t d
theorem afterF_9 (c : Dev nD) (t : Fin cfg0.N) : (datsF m 0 c).after 9 t = iblk m c 9 t := by dsimp only [datsF]

/-- A whole scratch buffer, spelt through its view. -/
theorem whole_pt (c : Dev nD) (b : Ref sig .tc) (f : b.ty.Contents (Elt F)) :
    (((Memref.whole b).view.loc (c : Thread nD τ) ↦[(Memref.whole b).view.set]{fullShare} f : sProp 𝕄))
      = (((c : Thread nD τ).loc b) ↦{fullShare} f) := by
  simp only [Memref.view_whole, View.set_whole]

theorem whole_out (c : Dev nD) (b : Ref sig .tc) (f : b.ty.Contents (Elt F)) :
    (((Memref.whole b).view.loc (c : Thread nD τ) ↦[(Memref.whole b).view.set]{fullShare} f : sProp 𝕄))
      ⊢ (((c : Thread nD τ).loc b) ↦{fullShare} f) := by
  rw [whole_pt]

/-- What the body starts from at point `t`. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ d, owns (c : Thread nD τ) (st0_6 t) fullShare ((datsF m 0 c).before 6 t d))
    ∗ (∃ d, owns (c : Thread nD τ) (st0_7 t) fullShare ((datsF m 0 c).before 7 t d))
    ∗ (∃ d, owns (c : Thread nD τ) (st0_8 t) fullShare ((datsF m 0 c).before 8 t d))
    ∗ (∃ d, owns (c : Thread nD τ) (st0_9 t) fullShare ((datsF m 0 c).before 9 t d))
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X))
/-- What it leaves. -/
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ owns (c : Thread nD τ) (st0_6 t) fullShare ((datsF m 0 c).after 6 t)
    ∗ owns (c : Thread nD τ) (st0_7 t) fullShare ((datsF m 0 c).after 7 t)
    ∗ owns (c : Thread nD τ) (st0_8 t) fullShare ((datsF m 0 c).after 8 t)
    ∗ owns (c : Thread nD τ) (st0_9 t) fullShare ((datsF m 0 c).after 9 t)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X))

set_option maxHeartbeats 4000000 in
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (datsF m 0 c).Φ t.succ = Pipeline.ΦA spec0 c from rfl, show (datsF m 0 c).Φ t.castSucc = Pipeline.ΦA spec0 c from rfl]
  unfold Pipeline.ΦA
  rw [scopedRest0_eq]
  simp only [beforeF_0, afterF_0, beforeF_1, afterF_1, beforeF_2, afterF_2, beforeF_3, afterF_3, beforeF_4, afterF_4, beforeF_5, afterF_5, beforeF_6, afterF_6, beforeF_7, afterF_7, beforeF_8, afterF_8, beforeF_9, afterF_9]
  unfold Dat.owesAt Pipeline.owesWithin
  rw [show (datsF m 0 c).owed t.castSucc = 0 from rfl, show (datsF m 0 c).owed t.succ = 0 from rfl]
  unfold owns
  iintro ⟨⟨⟨⟨%s17, HS17⟩, ⟨%s18, HS18⟩⟩, Hg⟩, HW, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩⟩
  iapply (wp_wand_r Idealize.ShloMosaic.frame (wpE (defs₀ (F := F)) Variants.none (c : Thread nD τ) none) Set.univ)
  isplitl [HS17 HS18 H0 H1 H2 H3 H4 H5 H6 H7 H8 H9 H10 H11 H12 H13 H14]
  · iapply (body_run c
        (grid0.coords t)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (win0_3.stage (cfg0.slots t 3)) (hstage0_3 ((cfg0.slots t 3).cast nbuf0_3))
        (win0_4.stage (cfg0.slots t 4)) (hstage0_4 ((cfg0.slots t 4).cast nbuf0_4))
        (win0_5.stage (cfg0.slots t 5)) (hstage0_5 ((cfg0.slots t 5).cast nbuf0_5))
        (win0_6.stage (cfg0.slots t 6)) (hstage0_6 ((cfg0.slots t 6).cast nbuf0_6))
        (win0_7.stage (cfg0.slots t 7)) (hstage0_7 ((cfg0.slots t 7).cast nbuf0_7))
        (win0_8.stage (cfg0.slots t 8)) (hstage0_8 ((cfg0.slots t 8).cast nbuf0_8))
        (win0_9.stage (cfg0.slots t 9)) (hstage0_9 ((cfg0.slots t 9).cast nbuf0_9))
        (win0_10.stage (cfg0.slots t 10)) (hstage0_10 ((cfg0.slots t 10).cast nbuf0_10))
        (win0_11.stage (cfg0.slots t 11)) (hstage0_11 ((cfg0.slots t 11).cast nbuf0_11))
        (win0_12.stage (cfg0.slots t 12)) (hstage0_12 ((cfg0.slots t 12).cast nbuf0_12))
        (win0_13.stage (cfg0.slots t 13)) (hstage0_13 ((cfg0.slots t 13).cast nbuf0_13))
        (win0_14.stage (cfg0.slots t 14)) (hstage0_14 ((cfg0.slots t 14).cast nbuf0_14))
        (Memref.whole cc0_scratch0) (Memref.isWhole_whole _) (Memref.whole cc0_scratch1) (Memref.isWhole_whole _)
        f0 f1 f2 f3 f4 f5 f6 f7 f8 f9 (fun _ _ _ _ _ _ => True) (fun _ _ _ _ _ => trivial)
        (fun _ _ _ _ _ _ _ _ _ => trivial) f10 f11 f12 f13 f14 s17 s18)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS17]
    · rw [whole_pt]; iexact HS17
    · rw [whole_pt]; iexact HS18
  · iintro %_ ⟨H0, H1, H2, H3, %g12, %g13, %g14, %g15, %g16, %g17, %g18, ⟨H4, H5, H6, H7, H8, H9, H10, H11, H12, H13, H14, HS17, HS18⟩, -⟩
    isplitl [HS17 HS18 Hg]
    · isplitl [HS17 HS18]
      · isplitl [HS17]
        · iexists g17; iapply (whole_out c cc0_scratch0 g17); iexact HS17
        · iexists g18; iapply (whole_out c cc0_scratch1 g18); iexact HS18
      iexact Hg
    isplitl [HW]; · iexact HW
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

theorem defs₀_row (t : Fin cfg0.N) :
    defs₀ (F := F) .tc cfg0.body (cfg0.bodyArgs t (cfg0.slots t)) = bodyAt0 t := by
  unfold defs₀; rw [Defs.onTc_tc]

theorem body_obligationF (c : Dev nD) :
    BodyObligationLoose (datsF (F := F) m 0 c) (defs₀ (F := F)) Variants.none () Set.univ fgt := fun t => by
  rw [bigSep_W0, bigSep_W0, defs₀_row]
  exact triple_restated (sound_bodyF m c t) rfl .rfl fun _ => .rfl

/-- The buffers the host operations after the kernel write. -/
def tailT : Finset (Ref sig .tc) := {main_v19, main_v20}

theorem tail_writes : ∀ ops ∈ ([hostOps1] : List (List (HloOp τ sig (Elt F)))), ∀ op ∈ ops, ∀ b : Ref sig .tc,
    Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  unfold tailT
  rcases hop with rfl | rfl
  all_goals
    simp only [StableHlo.reshape_writes, Finset.mem_singleton] at hb
    by_contra hn
    simp only [Finset.mem_insert, Finset.mem_singleton, not_or] at hn
    exact StableHlo.devRef_ne_of_ne (by first | exact hn.1 | exact hn.2) hb

set_option backward.isDefEq.respectTransparency.types false in
theorem run_frame : θ_run defs (onTc (τ := τ) (main (F := F))) (s₀ m ρ) (fun r =>
    Pipeline.RDat.FramePostR (cfgs 0) (fun c => (datsF m 0 c).toRForget fgt) tailT (V m) r ∧ r.2.sem = fun _ => 0) :=
  Pipeline.θ_run_frame_around_T_forget cfgs (datsF m) (0 : Fin 1) launch0 defs₀ Variants.none fgt tailT m ρ main
    (hbody := fun c => body_obligationF m c) (hshare := fun c => (datsF m 0 c).share_full fun _ => rfl)
    (howed := fun _ _ => rfl) (V₀ := V0 m) (opss := [hostOps1]) (hsub := sfx_sub) (hfresh := sfx_fresh)
    (hkeep := sfx_keeps) (hT := tail_writes) (hmain := hmain m Variants.none) (hA := A_eqF m) (hΦ := fun _ _ => rfl)
    (Q' := _) (hQ' := fun _ h => h)

/-- THE FRAME at any interpretation of the floats: every execution ends with the arguments as they were and every
semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    ⟨(h.1.arr_in c 4 rfl).trans (V_main_arg0 m c), (h.1.arr_in c 5 rfl).trans (V_main_arg1 m c),
      (h.1.arr_in c 6 rfl).trans (V_main_arg2 m c), ((h.1 c).2 main_arg3 (by decide)).trans (V_main_arg3 m c),
      (h.1.arr_in c 7 rfl).trans (V_main_arg4 m c), ((h.1 c).2 main_arg5 (by decide)).trans (V_main_arg5 m c),
      ((h.1 c).2 main_arg6 (by decide)).trans (V_main_arg6 m c), ((h.1 c).2 main_arg7 (by decide)).trans (V_main_arg7 m c)⟩,
    h.2⟩) (run_frame m ρ)

end Cert.Kernel.Hand

end
-- ==== Proof.KI.Trip.lean ====
module

public import proofs.«01_k».proof.Proof.Gen.KernelIdeal.Frame
public import proofs.«01_k».proof.Proof.Gen.KernelIdeal.Loops

/-! One trip of the kernel's outer loop (a group of sixteen rows): what it writes, as the lists of rectangles and values
that running its program gives. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD)
  (i : grid0.Coords) (arg2 : Memref sig .tc .vmem S2x128 .f32) (harg2 : arg2.IsWhole)
  (arg3 : Memref sig .tc .vmem S2x128 .f32) (harg3 : arg3.IsWhole) (arg4 : Memref sig .tc .vmem S2x128 .f32)
  (harg4 : arg4.IsWhole) (arg5 : Memref sig .tc .vmem S2x128 .f32) (harg5 : arg5.IsWhole)
  (arg6 : Memref sig .tc .vmem S1x32x8192 .bf16) (harg6 : arg6.IsWhole) (arg7 : Memref sig .tc .vmem S1x32x8192 .bf16)
  (harg7 : arg7.IsWhole) (arg8 : Memref sig .tc .vmem S1x128x2048 .i8) (harg8 : arg8.IsWhole)
  (arg9 : Memref sig .tc .vmem S1x128x2048 .i8) (harg9 : arg9.IsWhole) (arg10 : Memref sig .tc .vmem S1x32x4 .f32)
  (harg10 : arg10.IsWhole) (arg11 : Memref sig .tc .vmem S1x32x4 .f32) (harg11 : arg11.IsWhole)
  (arg12 : Memref sig .tc .vmem S1x32x8192 .bf16) (harg12 : arg12.IsWhole) (arg13 : Memref sig .tc .vmem S1x128x2048 .i8)
  (harg13 : arg13.IsWhole) (arg14 : Memref sig .tc .vmem S1x128x2048 .i8) (harg14 : arg14.IsWhole)
  (arg15 : Memref sig .tc .vmem S1x32x4 .f32) (harg15 : arg15.IsWhole) (arg16 : Memref sig .tc .vmem S1x32x4 .f32)
  (harg16 : arg16.IsWhole) (arg17 : Memref sig .tc .vmem S32x8192 .f32) (harg17 : arg17.IsWhole)
  (arg18 : Memref sig .tc .vmem S32x8192 .f32) (harg18 : arg18.IsWhole) (v0 : Vec F S1x128 .f32) (v4 : Vec F S1x128 .f32)
  (v8 : Vec F S1x128 .f32) (v12 : Vec F S1x128 .f32) (v16 : Vec F S1x128 .f32) (v20 : Vec F S1x128 .f32)
  (v24 : Vec F S1x128 .f32) (v28 : Vec F S1x128 .f32)

/-- The buffers one trip touches: the six it reads at their contents, the five results and the two scratch buffers at
`f12` … `f18`. -/
abbrev Held (X6 : BufTy.Contents (Elt F) arg6.view.ty) (X7 : BufTy.Contents (Elt F) arg7.view.ty)
    (X8 : BufTy.Contents (Elt F) arg8.view.ty) (X9 : BufTy.Contents (Elt F) arg9.view.ty)
    (X10 : BufTy.Contents (Elt F) arg10.view.ty) (X11 : BufTy.Contents (Elt F) arg11.view.ty)
    (f12 : BufTy.Contents (Elt F) arg12.view.ty) (f13 : BufTy.Contents (Elt F) arg13.view.ty)
    (f14 : BufTy.Contents (Elt F) arg14.view.ty) (f15 : BufTy.Contents (Elt F) arg15.view.ty)
    (f16 : BufTy.Contents (Elt F) arg16.view.ty) (f17 : BufTy.Contents (Elt F) arg17.view.ty)
    (f18 : BufTy.Contents (Elt F) arg18.view.ty) : sProp 𝕄 :=
  iprop((arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} f12)
    ∗ (arg13.view.loc (c : Thread nD τ) ↦[arg13.view.set]{fullShare} f13)
    ∗ (arg14.view.loc (c : Thread nD τ) ↦[arg14.view.set]{fullShare} f14)
    ∗ (arg15.view.loc (c : Thread nD τ) ↦[arg15.view.set]{fullShare} f15)
    ∗ (arg16.view.loc (c : Thread nD τ) ↦[arg16.view.set]{fullShare} f16)
    ∗ (arg17.view.loc (c : Thread nD τ) ↦[arg17.view.set]{fullShare} f17)
    ∗ (arg18.view.loc (c : Thread nD τ) ↦[arg18.view.set]{fullShare} f18))

set_option maxHeartbeats 8000000 in
/-- One trip of the outer loop run at a symbolic trip: the pieces it writes into each of the seven buffers. -/
@[irreducible] def trip (k : Fin k0_t1_loop.trips)
    (X6 : BufTy.Contents (Elt F) arg6.view.ty) (X7 : BufTy.Contents (Elt F) arg7.view.ty)
    (X8 : BufTy.Contents (Elt F) arg8.view.ty) (X9 : BufTy.Contents (Elt F) arg9.view.ty)
    (X10 : BufTy.Contents (Elt F) arg10.view.ty) (X11 : BufTy.Contents (Elt F) arg11.view.ty)
    (f17 : BufTy.Contents (Elt F) arg17.view.ty) (f18 : BufTy.Contents (Elt F) arg18.view.ty) :
    Σ' (L12 : List (View.Piece (Elt F) S1x32x8192 .bf16)) (L13 : List (View.Piece (Elt F) S1x128x2048 .i8))
      (L14 : List (View.Piece (Elt F) S1x128x2048 .i8)) (L15 : List (View.Piece (Elt F) S1x32x4 .f32))
      (L16 : List (View.Piece (Elt F) S1x32x4 .f32)) (L17 : List (View.Piece (Elt F) S32x8192 .f32)),
      { L18 : List (View.Piece (Elt F) S32x8192 .f32) //
        ∀ (f12 : BufTy.Contents (Elt F) arg12.view.ty) (f13 : BufTy.Contents (Elt F) arg13.view.ty)
          (f14 : BufTy.Contents (Elt F) arg14.view.ty) (f15 : BufTy.Contents (Elt F) arg15.view.ty)
          (f16 : BufTy.Contents (Elt F) arg16.view.ty),
        Held c arg6 arg7 arg8 arg9 arg10 arg11 arg12 arg13 arg14 arg15 arg16 arg17 arg18 X6 X7 X8 X9 X10 X11 f12 f13 f14 f15 f16 f17 f18
        ⊢ wp frame (wpE (defs₀ (F := F)) Variants.none (c : Thread nD τ) none) Set.univ
            (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k PUnit.unit)
            (fun _ => Held c arg6 arg7 arg8 arg9 arg10 arg11 arg12 arg13 arg14 arg15 arg16 arg17 arg18 X6 X7 X8 X9 X10 X11
              (arg12.view.writes (Elt F) f12 L12) (arg13.view.writes (Elt F) f13 L13) (arg14.view.writes (Elt F) f14 L14)
              (arg15.view.writes (Elt F) f15 L15) (arg16.view.writes (Elt F) f16 L16) (arg17.view.writes (Elt F) f17 L17)
              (arg18.view.writes (Elt F) f18 L18)) } := by
  have hk : k.val < 2 := Nat.lt_of_lt_of_le k.isLt k0_t1_abs.2.1
  refine ⟨?_, ?_, ?_, ?_, ?_, ?_, ?_, fun f12 f13 f14 f15 f16 => ?run⟩
  case run =>
    unfold k0_t1_body
    iintro ⟨H6, H7, H8, H9, H10, H11, H12, H13, H14, H15, H16, H17, H18⟩
    sl_exec
    sl_step
    sl_close

end Cert.KernelIdeal.Hand

end
-- ==== Proof.KI.Body.lean ====
module

public import proofs.«01_k».proof.Proof.KI.Trip

/-! The kernel's body on one grid point: its outer loop by an invariant over the five result blocks. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD)
  (i : grid0.Coords) (arg2 : Memref sig .tc .vmem S2x128 .f32) (harg2 : arg2.IsWhole)
  (arg3 : Memref sig .tc .vmem S2x128 .f32) (harg3 : arg3.IsWhole) (arg4 : Memref sig .tc .vmem S2x128 .f32)
  (harg4 : arg4.IsWhole) (arg5 : Memref sig .tc .vmem S2x128 .f32) (harg5 : arg5.IsWhole)
  (arg6 : Memref sig .tc .vmem S1x32x8192 .bf16) (harg6 : arg6.IsWhole) (arg7 : Memref sig .tc .vmem S1x32x8192 .bf16)
  (harg7 : arg7.IsWhole) (arg8 : Memref sig .tc .vmem S1x128x2048 .i8) (harg8 : arg8.IsWhole)
  (arg9 : Memref sig .tc .vmem S1x128x2048 .i8) (harg9 : arg9.IsWhole) (arg10 : Memref sig .tc .vmem S1x32x4 .f32)
  (harg10 : arg10.IsWhole) (arg11 : Memref sig .tc .vmem S1x32x4 .f32) (harg11 : arg11.IsWhole)
  (arg12 : Memref sig .tc .vmem S1x32x8192 .bf16) (harg12 : arg12.IsWhole) (arg13 : Memref sig .tc .vmem S1x128x2048 .i8)
  (harg13 : arg13.IsWhole) (arg14 : Memref sig .tc .vmem S1x128x2048 .i8) (harg14 : arg14.IsWhole)
  (arg15 : Memref sig .tc .vmem S1x32x4 .f32) (harg15 : arg15.IsWhole) (arg16 : Memref sig .tc .vmem S1x32x4 .f32)
  (harg16 : arg16.IsWhole) (arg17 : Memref sig .tc .vmem S32x8192 .f32) (harg17 : arg17.IsWhole)
  (arg18 : Memref sig .tc .vmem S32x8192 .f32) (harg18 : arg18.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (X8 : BufTy.Contents (Elt F) arg8.view.ty) (X9 : BufTy.Contents (Elt F) arg9.view.ty)
  (X10 : BufTy.Contents (Elt F) arg10.view.ty) (X11 : BufTy.Contents (Elt F) arg11.view.ty)
  (P : ℕ → BufTy.Contents (Elt F) arg12.view.ty →
    BufTy.Contents (Elt F) arg13.view.ty →
    BufTy.Contents (Elt F) arg14.view.ty →
    BufTy.Contents (Elt F) arg15.view.ty →
    BufTy.Contents (Elt F) arg16.view.ty → Prop)

/-- The trip of the outer loop with the eight table rows the body loads before it. -/
abbrev tripAt (k : Fin k0_t1_loop.trips) (f17 : BufTy.Contents (Elt F) arg17.view.ty) (f18 : BufTy.Contents (Elt F) arg18.view.ty) :=
  trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (arg2.view.readAt (Elt F) (Rect.unit (s := S2x128) ![0, 0] S1x128.size inb_S2x128_S1x128_0_0).toLoadRect X2)
    (arg2.view.readAt (Elt F) (Rect.unit (s := S2x128) ![1, 0] S1x128.size inb_S2x128_S1x128_1_0).toLoadRect X2)
    (arg3.view.readAt (Elt F) (Rect.unit (s := S2x128) ![0, 0] S1x128.size inb_S2x128_S1x128_0_0).toLoadRect X3)
    (arg3.view.readAt (Elt F) (Rect.unit (s := S2x128) ![1, 0] S1x128.size inb_S2x128_S1x128_1_0).toLoadRect X3)
    (arg4.view.readAt (Elt F) (Rect.unit (s := S2x128) ![0, 0] S1x128.size inb_S2x128_S1x128_0_0).toLoadRect X4)
    (arg4.view.readAt (Elt F) (Rect.unit (s := S2x128) ![1, 0] S1x128.size inb_S2x128_S1x128_1_0).toLoadRect X4)
    (arg5.view.readAt (Elt F) (Rect.unit (s := S2x128) ![0, 0] S1x128.size inb_S2x128_S1x128_0_0).toLoadRect X5)
    (arg5.view.readAt (Elt F) (Rect.unit (s := S2x128) ![1, 0] S1x128.size inb_S2x128_S1x128_1_0).toLoadRect X5)
    k X6 X7 X8 X9 X10 X11 f17 f18

/-- The five result blocks satisfy `P k` before trip `k`; everything the body reads is as it was; the scratch buffers hold
anything. -/
abbrev loopState (k : ℕ) (_u : Unit) : sProp 𝕄 :=
  iprop(∃ (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty),
    Held c arg6 arg7 arg8 arg9 arg10 arg11 arg12 arg13 arg14 arg15 arg16 arg17 arg18 X6 X7 X8 X9 X10 X11 f12 f13 f14 f15 f16 f17 f18 ∗ ⌜P k f12 f13 f14 f15 f16⌝)

set_option maxHeartbeats 8000000 in
/-- The body of the kernel at one grid point: from any contents of the results and the scratch buffers it ends with the
results satisfying `P` at the loop's trip count, if `P 0` holds of any contents and each trip preserves `P`. -/
theorem body_run (h0 : ∀ f12 f13 f14 f15 f16, P 0 f12 f13 f14 f15 f16)
    (hs : ∀ (k : Fin k0_t1_loop.trips) f12 f13 f14 f15 f16 (f17 : BufTy.Contents (Elt F) arg17.view.ty) (f18 : BufTy.Contents (Elt F) arg18.view.ty), P k f12 f13 f14 f15 f16 →
      P (k.val + 1) (arg12.view.writes (Elt F) f12 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).1)
        (arg13.view.writes (Elt F) f13 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.1)
        (arg14.view.writes (Elt F) f14 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.2.1)
        (arg15.view.writes (Elt F) f15 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.2.2.1)
        (arg16.view.writes (Elt F) f16 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.2.2.2.1))
    (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ Held c arg6 arg7 arg8 arg9 arg10 arg11 arg12 arg13 arg14 arg15 arg16 arg17 arg18 X6 X7 X8 X9 X10 X11 f12 f13 f14 f15 f16 f17 f18)
    ⊢ wp frame (wpE (defs₀ (F := F)) Variants.none (c : Thread nD τ) none) Set.univ
        (cc0_adamw8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
          ∗ loopState c arg6 arg7 arg8 arg9 arg10 arg11 arg12 arg13 arg14 arg15 arg16 arg17 arg18 X6 X7 X8 X9 X10 X11 P k0_t1_loop.trips ())) := by
  simp only [cc0_adamw8_eq_skeleton]; unfold cc0_adamw8_skel
  iintro ⟨H2, H3, H4, H5, HH⟩
  sl_exec
  sl_for (loopState c arg6 arg7 arg8 arg9 arg10 arg11 arg12 arg13 arg14 arg15 arg16 arg17 arg18 X6 X7 X8 X9 X10 X11 P) $$ [HH]
  · intro k u
    iintro ⟨%g12, %g13, %g14, %g15, %g16, %g17, %g18, HH, %hP⟩
    iapply (wp_wand_r Idealize.ShloMosaic.frame (wpE (defs₀ (F := F)) Variants.none (c : Thread nD τ) none) Set.univ)
    isplitl [HH]
    · iapply ((tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k g17 g18).2.2.2.2.2.2.2 g12 g13 g14 g15 g16)
      iexact HH
    · iintro %_ HH
      iexists _, _, _, _, _, _, _
      isplitl [HH]; · iexact HH
      ipureintro; exact hs k _ _ _ _ _ g17 g18 hP
  · iexists _, _, _, _, _, _, _
    isplitl [HH]; · iexact HH
    ipureintro; exact h0 _ _ _ _ _
  · iintro %u HH
    sl_step
    isplitl [H2]; · iexact H2
    isplitl [H3]; · iexact H3
    isplitl [H4]; · iexact H4
    isplitl [H5]; · iexact H5
    iexact HH

end Cert.KernelIdeal.Hand

end
-- ==== Proof.KI.Frame.lean ====
module

public import proofs.«01_k».proof.Proof.KI.Body
public import Idealize.ShloMosaic.Lib.Pipeline.FrameSuffix
public import Idealize.ShloMosaic.Lib.Pipeline.FrameBody

/-! The frame of the program: every execution ends with the arguments as they were and every semaphore at zero. The body
is run on each grid point; what it leaves in the five results is not named here. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents after the body are not named: the five results. -/
abbrev fgt : Fin cfg0.W → Bool := fun w => decide (10 ≤ w.val)

/-- The proof data of the one pipeline on core `c`: the arrays as the region finds them, each input block left in place,
the results unnamed, the scratch buffers at any contents, nothing owed, full shares. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Dat.unnamed 10 t
    | ⟨11, _⟩ => Dat.unnamed 11 t
    | ⟨12, _⟩ => Dat.unnamed 12 t
    | ⟨13, _⟩ => Dat.unnamed 13 t
    | ⟨14, _⟩ => Dat.unnamed 14 t
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem beforeF_0 (c : Dev nD) (t : Fin cfg0.N) (d) : (datsF m 0 c).before 0 t d = iblk m c 0 t :=
  before0_0_of m (datsF m 0 c) (A_eqF m c 0) (fun _ => by dsimp only [datsF]) t d
theorem afterF_0 (c : Dev nD) (t : Fin cfg0.N) : (datsF m 0 c).after 0 t = iblk m c 0 t := by dsimp only [datsF]
theorem beforeF_1 (c : Dev nD) (t : Fin cfg0.N) (d) : (datsF m 0 c).before 1 t d = iblk m c 1 t :=
  before0_1_of m (datsF m 0 c) (A_eqF m c 1) (fun _ => by dsimp only [datsF]) t d
theorem afterF_1 (c : Dev nD) (t : Fin cfg0.N) : (datsF m 0 c).after 1 t = iblk m c 1 t := by dsimp only [datsF]
theorem beforeF_2 (c : Dev nD) (t : Fin cfg0.N) (d) : (datsF m 0 c).before 2 t d = iblk m c 2 t :=
  before0_2_of m (datsF m 0 c) (A_eqF m c 2) (fun _ => by dsimp only [datsF]) t d
theorem afterF_2 (c : Dev nD) (t : Fin cfg0.N) : (datsF m 0 c).after 2 t = iblk m c 2 t := by dsimp only [datsF]
theorem beforeF_3 (c : Dev nD) (t : Fin cfg0.N) (d) : (datsF m 0 c).before 3 t d = iblk m c 3 t :=
  before0_3_of m (datsF m 0 c) (A_eqF m c 3) (fun _ => by dsimp only [datsF]) t d
theorem afterF_3 (c : Dev nD) (t : Fin cfg0.N) : (datsF m 0 c).after 3 t = iblk m c 3 t := by dsimp only [datsF]
theorem beforeF_4 (c : Dev nD) (t : Fin cfg0.N) (d) : (datsF m 0 c).before 4 t d = iblk m c 4 t :=
  before0_4_of m (datsF m 0 c) (A_eqF m c 4) (fun _ => by dsimp only [datsF]) t d
theorem afterF_4 (c : Dev nD) (t : Fin cfg0.N) : (datsF m 0 c).after 4 t = iblk m c 4 t := by dsimp only [datsF]
theorem beforeF_5 (c : Dev nD) (t : Fin cfg0.N) (d) : (datsF m 0 c).before 5 t d = iblk m c 5 t :=
  before0_5_of m (datsF m 0 c) (A_eqF m c 5) (fun _ => by dsimp only [datsF]) t d
theorem afterF_5 (c : Dev nD) (t : Fin cfg0.N) : (datsF m 0 c).after 5 t = iblk m c 5 t := by dsimp only [datsF]
theorem beforeF_6 (c : Dev nD) (t : Fin cfg0.N) (d) : (datsF m 0 c).before 6 t d = iblk m c 6 t :=
  before0_6_of m (datsF m 0 c) (A_eqF m c 6) (fun _ => by dsimp only [datsF]) t d
theorem afterF_6 (c : Dev nD) (t : Fin cfg0.N) : (datsF m 0 c).after 6 t = iblk m c 6 t := by dsimp only [datsF]
theorem beforeF_7 (c : Dev nD) (t : Fin cfg0.N) (d) : (datsF m 0 c).before 7 t d = iblk m c 7 t :=
  before0_7_of m (datsF m 0 c) (A_eqF m c 7) (fun _ => by dsimp only [datsF]) t d
theorem afterF_7 (c : Dev nD) (t : Fin cfg0.N) : (datsF m 0 c).after 7 t = iblk m c 7 t := by dsimp only [datsF]
theorem beforeF_8 (c : Dev nD) (t : Fin cfg0.N) (d) : (datsF m 0 c).before 8 t d = iblk m c 8 t :=
  before0_8_of m (datsF m 0 c) (A_eqF m c 8) (fun _ => by dsimp only [datsF]) t d
theorem afterF_8 (c : Dev nD) (t : Fin cfg0.N) : (datsF m 0 c).after 8 t = iblk m c 8 t := by dsimp only [datsF]
theorem beforeF_9 (c : Dev nD) (t : Fin cfg0.N) (d) : (datsF m 0 c).before 9 t d = iblk m c 9 t :=
  before0_9_of m (datsF m 0 c) (A_eqF m c 9) (fun _ => by dsimp only [datsF]) t d
theorem afterF_9 (c : Dev nD) (t : Fin cfg0.N) : (datsF m 0 c).after 9 t = iblk m c 9 t := by dsimp only [datsF]

/-- A whole scratch buffer, spelt through its view. -/
theorem whole_pt (c : Dev nD) (b : Ref sig .tc) (f : b.ty.Contents (Elt F)) :
    (((Memref.whole b).view.loc (c : Thread nD τ) ↦[(Memref.whole b).view.set]{fullShare} f : sProp 𝕄))
      = (((c : Thread nD τ).loc b) ↦{fullShare} f) := by
  simp only [Memref.view_whole, View.set_whole]

theorem whole_out (c : Dev nD) (b : Ref sig .tc) (f : b.ty.Contents (Elt F)) :
    (((Memref.whole b).view.loc (c : Thread nD τ) ↦[(Memref.whole b).view.set]{fullShare} f : sProp 𝕄))
      ⊢ (((c : Thread nD τ).loc b) ↦{fullShare} f) := by
  rw [whole_pt]

/-- What the body starts from at point `t`. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ d, owns (c : Thread nD τ) (st0_6 t) fullShare ((datsF m 0 c).before 6 t d))
    ∗ (∃ d, owns (c : Thread nD τ) (st0_7 t) fullShare ((datsF m 0 c).before 7 t d))
    ∗ (∃ d, owns (c : Thread nD τ) (st0_8 t) fullShare ((datsF m 0 c).before 8 t d))
    ∗ (∃ d, owns (c : Thread nD τ) (st0_9 t) fullShare ((datsF m 0 c).before 9 t d))
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X))
/-- What it leaves. -/
def bodyPostF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ owns (c : Thread nD τ) (st0_6 t) fullShare ((datsF m 0 c).after 6 t)
    ∗ owns (c : Thread nD τ) (st0_7 t) fullShare ((datsF m 0 c).after 7 t)
    ∗ owns (c : Thread nD τ) (st0_8 t) fullShare ((datsF m 0 c).after 8 t)
    ∗ owns (c : Thread nD τ) (st0_9 t) fullShare ((datsF m 0 c).after 9 t)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X))

set_option maxHeartbeats 4000000 in
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (datsF m 0 c).Φ t.succ = Pipeline.ΦA spec0 c from rfl, show (datsF m 0 c).Φ t.castSucc = Pipeline.ΦA spec0 c from rfl]
  unfold Pipeline.ΦA
  rw [scopedRest0_eq]
  simp only [beforeF_0, afterF_0, beforeF_1, afterF_1, beforeF_2, afterF_2, beforeF_3, afterF_3, beforeF_4, afterF_4, beforeF_5, afterF_5, beforeF_6, afterF_6, beforeF_7, afterF_7, beforeF_8, afterF_8, beforeF_9, afterF_9]
  unfold Dat.owesAt Pipeline.owesWithin
  rw [show (datsF m 0 c).owed t.castSucc = 0 from rfl, show (datsF m 0 c).owed t.succ = 0 from rfl]
  unfold owns
  iintro ⟨⟨⟨⟨%s17, HS17⟩, ⟨%s18, HS18⟩⟩, Hg⟩, HW, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩⟩
  iapply (wp_wand_r Idealize.ShloMosaic.frame (wpE (defs₀ (F := F)) Variants.none (c : Thread nD τ) none) Set.univ)
  isplitl [HS17 HS18 H0 H1 H2 H3 H4 H5 H6 H7 H8 H9 H10 H11 H12 H13 H14]
  · iapply (body_run c
        (grid0.coords t)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (win0_3.stage (cfg0.slots t 3)) (hstage0_3 ((cfg0.slots t 3).cast nbuf0_3))
        (win0_4.stage (cfg0.slots t 4)) (hstage0_4 ((cfg0.slots t 4).cast nbuf0_4))
        (win0_5.stage (cfg0.slots t 5)) (hstage0_5 ((cfg0.slots t 5).cast nbuf0_5))
        (win0_6.stage (cfg0.slots t 6)) (hstage0_6 ((cfg0.slots t 6).cast nbuf0_6))
        (win0_7.stage (cfg0.slots t 7)) (hstage0_7 ((cfg0.slots t 7).cast nbuf0_7))
        (win0_8.stage (cfg0.slots t 8)) (hstage0_8 ((cfg0.slots t 8).cast nbuf0_8))
        (win0_9.stage (cfg0.slots t 9)) (hstage0_9 ((cfg0.slots t 9).cast nbuf0_9))
        (win0_10.stage (cfg0.slots t 10)) (hstage0_10 ((cfg0.slots t 10).cast nbuf0_10))
        (win0_11.stage (cfg0.slots t 11)) (hstage0_11 ((cfg0.slots t 11).cast nbuf0_11))
        (win0_12.stage (cfg0.slots t 12)) (hstage0_12 ((cfg0.slots t 12).cast nbuf0_12))
        (win0_13.stage (cfg0.slots t 13)) (hstage0_13 ((cfg0.slots t 13).cast nbuf0_13))
        (win0_14.stage (cfg0.slots t 14)) (hstage0_14 ((cfg0.slots t 14).cast nbuf0_14))
        (Memref.whole cc0_scratch0) (Memref.isWhole_whole _) (Memref.whole cc0_scratch1) (Memref.isWhole_whole _)
        f0 f1 f2 f3 f4 f5 f6 f7 f8 f9 (fun _ _ _ _ _ _ => True) (fun _ _ _ _ _ => trivial)
        (fun _ _ _ _ _ _ _ _ _ => trivial) f10 f11 f12 f13 f14 s17 s18)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS17]
    · rw [whole_pt]; iexact HS17
    · rw [whole_pt]; iexact HS18
  · iintro %_ ⟨H0, H1, H2, H3, %g12, %g13, %g14, %g15, %g16, %g17, %g18, ⟨H4, H5, H6, H7, H8, H9, H10, H11, H12, H13, H14, HS17, HS18⟩, -⟩
    isplitl [HS17 HS18 Hg]
    · isplitl [HS17 HS18]
      · isplitl [HS17]
        · iexists g17; iapply (whole_out c cc0_scratch0 g17); iexact HS17
        · iexists g18; iapply (whole_out c cc0_scratch1 g18); iexact HS18
      iexact Hg
    isplitl [HW]; · iexact HW
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

theorem defs₀_row (t : Fin cfg0.N) :
    defs₀ (F := F) .tc cfg0.body (cfg0.bodyArgs t (cfg0.slots t)) = bodyAt0 t := by
  unfold defs₀; rw [Defs.onTc_tc]

theorem body_obligationF (c : Dev nD) :
    BodyObligationLoose (datsF (F := F) m 0 c) (defs₀ (F := F)) Variants.none () Set.univ fgt := fun t => by
  rw [bigSep_W0, bigSep_W0, defs₀_row]
  exact triple_restated (sound_bodyF m c t) rfl .rfl fun _ => .rfl

/-- The buffers the host operations after the kernel write. -/
def tailT : Finset (Ref sig .tc) := {main_v19, main_v20}

theorem tail_writes : ∀ ops ∈ ([hostOps1] : List (List (HloOp τ sig (Elt F)))), ∀ op ∈ ops, ∀ b : Ref sig .tc,
    Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  unfold tailT
  rcases hop with rfl | rfl
  all_goals
    simp only [StableHlo.reshape_writes, Finset.mem_singleton] at hb
    by_contra hn
    simp only [Finset.mem_insert, Finset.mem_singleton, not_or] at hn
    exact StableHlo.devRef_ne_of_ne (by first | exact hn.1 | exact hn.2) hb

set_option backward.isDefEq.respectTransparency.types false in
theorem run_frame : θ_run defs (onTc (τ := τ) (main (F := F))) (s₀ m ρ) (fun r =>
    Pipeline.RDat.FramePostR (cfgs 0) (fun c => (datsF m 0 c).toRForget fgt) tailT (V m) r ∧ r.2.sem = fun _ => 0) :=
  Pipeline.θ_run_frame_around_T_forget cfgs (datsF m) (0 : Fin 1) launch0 defs₀ Variants.none fgt tailT m ρ main
    (hbody := fun c => body_obligationF m c) (hshare := fun c => (datsF m 0 c).share_full fun _ => rfl)
    (howed := fun _ _ => rfl) (V₀ := V0 m) (opss := [hostOps1]) (hsub := sfx_sub) (hfresh := sfx_fresh)
    (hkeep := sfx_keeps) (hT := tail_writes) (hmain := hmain m Variants.none) (hA := A_eqF m) (hΦ := fun _ _ => rfl)
    (Q' := _) (hQ' := fun _ h => h)

/-- THE FRAME at any interpretation of the floats: every execution ends with the arguments as they were and every
semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    ⟨(h.1.arr_in c 4 rfl).trans (V_main_arg0 m c), (h.1.arr_in c 5 rfl).trans (V_main_arg1 m c),
      (h.1.arr_in c 6 rfl).trans (V_main_arg2 m c), ((h.1 c).2 main_arg3 (by decide)).trans (V_main_arg3 m c),
      (h.1.arr_in c 7 rfl).trans (V_main_arg4 m c), ((h.1 c).2 main_arg5 (by decide)).trans (V_main_arg5 m c),
      ((h.1 c).2 main_arg6 (by decide)).trans (V_main_arg6 m c), ((h.1 c).2 main_arg7 (by decide)).trans (V_main_arg7 m c)⟩,
    h.2⟩) (run_frame m ρ)

end Cert.KernelIdeal.Hand

end
-- ==== Proof.R.Ref.lean ====
module

public import proofs.«01_k».proof.Proof.Gen.ReferenceIdeal.Run

/-! The reference program's results by name: the new moments, the new weights, the scales and the codes as functions of the eight
arrays. -/

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A constant at every place of the state. -/
def lit (b : BitVec 32) : FVec F S3x2560x2048 .f32 := broadcastInDim S3x2560x2048 ![] bcast_S_S3x2560x2048 (constant S_ .f32 b)

/-- One value per block of 2048, repeated along the block. -/
def spread {α : Type} (x : S3x2560.Idx → α) : S3x2560x2048.Idx → α :=
  broadcastInDim S3x2560x2048 ![0, 1, 2] bcast_S3x2560x1_S3x2560x2048_0_1_2 (broadcastInDim S3x2560x1 ![0, 1] bcast_S3x2560_S3x2560x1_0_1 x)

/-- The state the codes, the scales and the table stand for. -/
def decoded (mc : Vec F S3x2560x2048 .i8) (ma : FVec F S3x2560 .f32) (q : FVec F S256 .f32) : FVec F S3x2560x2048 .f32 :=
  mulf (Host.gather gather_S256_S3x2560x2048x1_S3x2560x2048_n_0_n_n_0_3_1 q (broadcastInDim S3x2560x2048x1 ![0, 1, 2] bcast_S3x2560x2048_S3x2560x2048x1_0_1_2 (extui 32 (mc : IVec S3x2560x2048 8) natLt_8_32)))
    (spread ma)

/-- The weights or the gradients, block by block and widened. -/
def wide (w : FVec F S3x640x8192 .bf16) : FVec F S3x2560x2048 .f32 :=
  extf .f32 (shapeCast S3x2560x2048 w shapeCasts_S3x640x8192_S3x2560x2048) bitsLt_bf16_f32

/-- The new first moments. -/
def mRef (g : FVec F S3x640x8192 .bf16) (mc : Vec F S3x2560x2048 .i8) (ma : FVec F S3x2560 .f32) (q : FVec F S256 .f32) : FVec F S3x2560x2048 .f32 :=
  addf (mulf (lit 0x3F666666#32) (decoded mc ma q)) (mulf (lit 0x3DCCCCCD#32) (wide g))

/-- The new second moments. -/
def vRef (g : FVec F S3x640x8192 .bf16) (vc : Vec F S3x2560x2048 .i8) (va : FVec F S3x2560 .f32) (q : FVec F S256 .f32) : FVec F S3x2560x2048 .f32 :=
  addf (mulf (lit 0x3F7FBE77#32) (decoded vc va q)) (mulf (mulf (lit 0x3A83126F#32) (wide g)) (wide g))

/-- The new weights, block by block. -/
def wRef (w : FVec F S3x640x8192 .bf16) (mn vn : FVec F S3x2560x2048 .f32) : FVec F S3x2560x2048 .bf16 :=
  truncf .bf16 (subf (mulf (wide w) (lit 0x3F7C28F6#32))
    (Host.divf (mulf (lit 0x3AC8C9B9#32) mn) (addf (Host.sqrt vn) (lit 0x30892154#32)))) bitsLt_bf16_f32

/-- The scale of each block: the largest absolute value in it. -/
def scaleRef (s : FVec F S3x2560x2048 .f32) : FVec F S3x2560 .f32 :=
  Host.reduce FloatOps.maximumf (Host.absf s) (constant S_ .f32 0xFF800000#32) reducesTo_S3x2560x2048_S3x2560_d2 h_S_

/-- Whether a block's scale is positive. -/
def live (a : FVec F S3x2560 .f32) : IVec S3x2560 1 :=
  cmpf .ogt a (broadcastInDim S3x2560 ![] bcast_S_S3x2560 (constant S_ .f32 0x00000000#32))

/-- The state over its scale, zero where the scale is not positive. -/
def yRef (s : FVec F S3x2560x2048 .f32) (a : FVec F S3x2560 .f32) : FVec F S3x2560x2048 .f32 :=
  select (spread (live a))
    (Host.divf s (spread (select (live a) a (broadcastInDim S3x2560 ![] bcast_S_S3x2560 (id (constant S_ .f32 0x3F800000#32))))))
    (broadcastInDim S3x2560x2048 ![] bcast_S_S3x2560x2048 (id (constant S_ .f32 0x00000000#32)))

/-- The midpoints of a table. -/
def midRef (q : FVec F S256 .f32) : FVec F S255 .f32 :=
  mulf (broadcastInDim S255 ![] bcast_S_S255 (constant S_ .f32 0x3F000000#32))
    (addf (extractStridedSlice S255 ![0] q slices_S256_S255_0) (extractStridedSlice S255 ![1] q slices_S256_S255_1))

/-- The codes: how many midpoints lie below each value. -/
def codeRef (y : FVec F S3x2560x2048 .f32) (d : FVec F S255 .f32) : IVec S3x2560x2048 8 :=
  trunci 8 (Host.reduce IntOp.addi (extui 32 (cmpf .olt
      (broadcastInDim S3x2560x2048x255 ![0, 1, 2, 3] bcast_S1x1x1x255_S3x2560x2048x255_0_1_2_3 (broadcastInDim S1x1x1x255 ![3] bcast_S255_S1x1x1x255_3 d))
      (broadcastInDim S3x2560x2048x255 ![0, 1, 2, 3] bcast_S3x2560x2048x1_S3x2560x2048x255_0_1_2_3 (broadcastInDim S3x2560x2048x1 ![0, 1, 2] bcast_S3x2560x2048_S3x2560x2048x1_0_1_2 y))) natLt_1_32)
    (constantI S_ 32 0#32) reducesTo_S3x2560x2048x255_S3x2560x2048_d3 h_S_) natLt_8_32

variable (m : (ℓ : Loc nD τ sig) → Buf (Elt F) ℓ) (ρ : Dev nD → PrngReg)

/-- The new first moments as launched. -/
def mNew (c : Dev nD) : FVec F S3x2560x2048 .f32 := mRef (m ((c.tc : Thread nD τ).loc main_arg1)) (m ((c.tc : Thread nD τ).loc main_arg2)) (m ((c.tc : Thread nD τ).loc main_arg3)) (m ((c.tc : Thread nD τ).loc main_arg6))
/-- The new second moments as launched. -/
def vNew (c : Dev nD) : FVec F S3x2560x2048 .f32 := vRef (m ((c.tc : Thread nD τ).loc main_arg1)) (m ((c.tc : Thread nD τ).loc main_arg4)) (m ((c.tc : Thread nD τ).loc main_arg5)) (m ((c.tc : Thread nD τ).loc main_arg7))

/-- Every execution ends with the five results at these values and the arguments as they were. -/
theorem run_ref : θ_run defs (onTc (τ := τ) (main (F := F))) ⟨m, fun _ => 0, ρ⟩ fun r => ∀ c : Dev nD,
      r.2.mem ((c.tc : Thread nD τ).loc main_v81) = shapeCast S3x640x8192 (wRef (m ((c.tc : Thread nD τ).loc main_arg0)) (mNew m c) (vNew m c)) shapeCasts_S3x2560x2048_S3x640x8192
      ∧ r.2.mem ((c.tc : Thread nD τ).loc main_v57) = codeRef (yRef (mNew m c) (scaleRef (mNew m c))) (midRef (m ((c.tc : Thread nD τ).loc main_arg6)))
      ∧ r.2.mem ((c.tc : Thread nD τ).loc main_v36) = scaleRef (mNew m c)
      ∧ r.2.mem ((c.tc : Thread nD τ).loc main_v80) = codeRef (yRef (vNew m c) (scaleRef (vNew m c))) (midRef (m ((c.tc : Thread nD τ).loc main_arg7)))
      ∧ r.2.mem ((c.tc : Thread nD τ).loc main_v59) = scaleRef (vNew m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨h1, h2, h3, h4, h5, h6⟩ := h c
    exact ⟨h1, h2.trans (by unfold Value.res_main_v57; rfl), h3, h4.trans (by unfold Value.res_main_v80; rfl), h5, h6⟩) (Value.run m ρ)

end Cert.ReferenceIdeal.Hand

end
-- ==== Proof.KI.Tiles.lean ====
module

public import proofs.«01_k».proof.Proof.KI.Body

/-! The tiles of sixteen rows and 128 columns that the two inner loops compute, as functions of the vectors they load: the
lookup in a table of 256 entries held as two rows, the new moments, the new weights, the eight steps of the search for a
code, and the words of four codes. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The entries of a table at the indices `idx`: the entries 0 to 127 in every row of `lo`, the entries 128 to 255 in every
row of `hi`. -/
def look (lo hi : FVec F S16x128 .f32) (idx : IVec S16x128 32) : FVec F S16x128 .f32 :=
  select (cmpi .sge idx (broadcast S16x128 128#32))
    (dynamicGather 1 hi (shapeCast S16x128 (shapeCast S16x128x1 (andi idx (broadcast S16x128 127#32)) shapeCasts_S16x128_S16x128x1) shapeCasts_S16x128x1_S16x128))
    (dynamicGather 1 lo (shapeCast S16x128 (shapeCast S16x128x1 (andi idx (broadcast S16x128 127#32)) shapeCasts_S16x128_S16x128x1) shapeCasts_S16x128x1_S16x128))

/-- Byte `q` of the words made of four consecutive rows of codes. -/
def byteOf (x : Vec F S1x64x128 .i8) (q : Fin 4) : IVec S16x128 32 :=
  andi (shrsi (bitcast S16x128 32 (shapeCast S64x128 x shapeCasts_S1x64x128_S64x128) bitcasts_S64x128_w8_S16x128_w32)
    (broadcast S16x128 (BitVec.ofNat 32 (8 * q.val)))) (broadcast S16x128 255#32)

/-- The old moment: the table's entry at the code, times the block's scale. -/
def decTile (lo hi : FVec F S16x128 .f32) (x : Vec F S1x64x128 .i8) (q : Fin 4) (a : Vec F S1x16x1 .f32) : FVec F S16x128 .f32 :=
  mulf (look lo hi (byteOf x q)) (broadcastTo S16x128 (shapeCast S16x1 a shapeCasts_S1x16x1_S16x1) broadcasts_S16x1_S16x128)

/-- A bf16 tile widened. -/
def upTile (g : Vec F S1x16x128 .bf16) : FVec F S16x128 .f32 :=
  extf .f32 (shapeCast S16x128 g shapeCasts_S1x16x128_S16x128 : FVec F S16x128 .bf16) bitsLt_bf16_f32

/-- The new first moment. -/
def mTile (d : FVec F S16x128 .f32) (g : Vec F S1x16x128 .bf16) : FVec F S16x128 .f32 :=
  addf (mulf (broadcast S16x128 (Scalar.ofBits .f32 0x3F666666#32)) d)
    (mulf (broadcast S16x128 (Scalar.ofBits .f32 0x3DCCCCCD#32)) (upTile g))

/-- The new second moment. -/
def vTile (d : FVec F S16x128 .f32) (g : Vec F S1x16x128 .bf16) : FVec F S16x128 .f32 :=
  addf (mulf (broadcast S16x128 (Scalar.ofBits .f32 0x3F7FBE77#32)) d)
    (mulf (mulf (broadcast S16x128 (Scalar.ofBits .f32 0x3A83126F#32)) (upTile g)) (upTile g))

/-- The new weights. -/
def wTile (m v : FVec F S16x128 .f32) (w : Vec F S1x16x128 .bf16) : FVec F S1x16x128 .bf16 :=
  shapeCast S1x16x128 (truncf .bf16 (subf (mulf (upTile w) (broadcast S16x128 (Scalar.ofBits .f32 0x3F7C28F6#32)))
    (divf (mulf (broadcast S16x128 (Scalar.ofBits .f32 0x3AC8C9B9#32)) m)
      (addf (sqrt v) (broadcast S16x128 (Scalar.ofBits .f32 0x30892154#32))))) bitsLt_bf16_f32) shapeCasts_S16x128_S1x16x128

/-- The largest absolute value of each row, at least the running maxima of the lanes. -/
def absTile (acc : FVec F S16x128 .f32) : FVec F S16x1 .f32 :=
  shapeCast S16x1 (multiReduction .maximumf [1] S16 acc 0xFF800000#32 reduces_S16x128_S16 (.inl rfl) rfl) shapeCasts_S16_S16x1

/-- One over the scale, or one where the scale is not positive. -/
def invTile (a : FVec F S16x1 .f32) : FVec F S16x1 .f32 :=
  divf (broadcast S16x1 (Scalar.ofBits .f32 0x3F800000#32))
    (select (cmpf .ogt a (broadcast S16x1 (Scalar.ofBits .f32 0x00000000#32))) a (broadcast S16x1 (Scalar.ofBits .f32 0x3F800000#32)))

/-- One step of the search: the code grows by `s` where the midpoint `s - 1` past it is below `y`. -/
def stepTile (lo hi y : FVec F S16x128 .f32) (s p : BitVec 32) (c : IVec S16x128 32) : IVec S16x128 32 :=
  select (cmpf .olt (look lo hi (addi c (broadcast S16x128 p))) y) (addi c (broadcast S16x128 s)) c

/-- The scaled moments. -/
def scaleTile (x : Vec F S16x128 .f32) (b : FVec F S16x1 .f32) : FVec F S16x128 .f32 :=
  mulf x (broadcastTo S16x128 b broadcasts_S16x1_S16x128)

/-- The codes of the values `y`, by the eight steps of the search. -/
def encTile (lo hi y : FVec F S16x128 .f32) : IVec S16x128 32 :=
  stepTile lo hi y 1#32 0#32 (stepTile lo hi y 2#32 1#32 (stepTile lo hi y 4#32 3#32 (stepTile lo hi y 8#32 7#32
    (stepTile lo hi y 16#32 15#32 (stepTile lo hi y 32#32 31#32 (stepTile lo hi y 64#32 63#32
      (stepTile lo hi y 128#32 127#32 (broadcast S16x128 0#32))))))))

/-- Four tiles of codes as 64 rows of bytes: row `4a + q` is row `a` of tile `q`. -/
def packTile (c : Fin 4 → IVec S16x128 32) : IVec S1x64x128 8 :=
  shapeCast S1x64x128 (bitcast S64x128 8 (ori (ori (ori (shli (c 0) (broadcast S16x128 0#32)) (shli (c 1) (broadcast S16x128 8#32)))
    (shli (c 2) (broadcast S16x128 16#32))) (shli (c 3) (broadcast S16x128 24#32))) bitcasts_S16x128_w32_S64x128_w8)
    shapeCasts_S64x128_S1x64x128

end Cert.KernelIdeal.Hand

end
-- ==== Proof.KI.Lists.lean ====
module

public import proofs.«01_k».proof.Proof.KI.Tiles

/-! What one trip of each inner loop writes and carries, in terms of the tiles. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD)
  (i : grid0.Coords) (arg2 : Memref sig .tc .vmem S2x128 .f32) (harg2 : arg2.IsWhole)
  (arg3 : Memref sig .tc .vmem S2x128 .f32) (harg3 : arg3.IsWhole) (arg4 : Memref sig .tc .vmem S2x128 .f32)
  (harg4 : arg4.IsWhole) (arg5 : Memref sig .tc .vmem S2x128 .f32) (harg5 : arg5.IsWhole)
  (arg6 : Memref sig .tc .vmem S1x32x8192 .bf16) (harg6 : arg6.IsWhole) (arg7 : Memref sig .tc .vmem S1x32x8192 .bf16)
  (harg7 : arg7.IsWhole) (arg8 : Memref sig .tc .vmem S1x128x2048 .i8) (harg8 : arg8.IsWhole)
  (arg9 : Memref sig .tc .vmem S1x128x2048 .i8) (harg9 : arg9.IsWhole) (arg10 : Memref sig .tc .vmem S1x32x4 .f32)
  (harg10 : arg10.IsWhole) (arg11 : Memref sig .tc .vmem S1x32x4 .f32) (harg11 : arg11.IsWhole)
  (arg12 : Memref sig .tc .vmem S1x32x8192 .bf16) (harg12 : arg12.IsWhole) (arg13 : Memref sig .tc .vmem S1x128x2048 .i8)
  (harg13 : arg13.IsWhole) (arg14 : Memref sig .tc .vmem S1x128x2048 .i8) (harg14 : arg14.IsWhole)
  (arg15 : Memref sig .tc .vmem S1x32x4 .f32) (harg15 : arg15.IsWhole) (arg16 : Memref sig .tc .vmem S1x32x4 .f32)
  (harg16 : arg16.IsWhole) (arg17 : Memref sig .tc .vmem S32x8192 .f32) (harg17 : arg17.IsWhole)
  (arg18 : Memref sig .tc .vmem S32x8192 .f32) (harg18 : arg18.IsWhole)

section T2

variable
  (X6 : BufTy.Contents (Elt F) arg6.view.ty) (X7 : BufTy.Contents (Elt F) arg7.view.ty)
  (X8 : BufTy.Contents (Elt F) arg8.view.ty) (X9 : BufTy.Contents (Elt F) arg9.view.ty)
  (v3 v7 v11 v15 : FVec F S16x128 .f32) (k1 : Fin k0_t1_loop.trips) (v34 v37 : BitVec 32)
  (a b : Fin 4 → Vec F S1x16x1 .f32)

/-- The rectangle of columns `2048 q + 128 t …` of the rows of group `k1` in a block of weights. -/
abbrev rW (k1 : Fin k0_t1_loop.trips) (t : Fin k0_t2_loop.trips) (q : Fin 4) : Rect S1x32x8192 :=
  Rect.unit (s := S1x32x8192) (k0_off6 k1 t (BitVec.ofNat 32 (2048 * q.val))) S1x16x128.size (k0_off6_inb k1 t q)

/-- The same rectangle in a scratch buffer. -/
abbrev rS (k1 : Fin k0_t1_loop.trips) (t : Fin k0_t2_loop.trips) (q : Fin 4) : Rect S32x8192 :=
  Rect.unit (s := S32x8192) (k0_off7 k1 t (BitVec.ofNat 32 (2048 * q.val))) S16x128.size (k0_off7_inb k1 t q)

/-- The same rectangle in a scratch buffer, as the second loop addresses it. -/
abbrev rS' (k1 : Fin k0_t1_loop.trips) (t : Fin k0_t3_loop.trips) (q : Fin 4) : Rect S32x8192 :=
  Rect.unit (s := S32x8192) (k0_off8 k1 t (BitVec.ofNat 32 (2048 * q.val))) S16x128.size (k0_off8_inb k1 t q)

/-- The rectangle of the columns `128 t …` of the 64 rows of codes of group `k1`, as the first loop addresses it. -/
abbrev rC (k1 : Fin k0_t1_loop.trips) (t : Fin k0_t2_loop.trips) : Rect S1x128x2048 :=
  Rect.unit (s := S1x128x2048) (k0_off5 k1 t) S1x64x128.size (k0_off5_inb k1 t)

/-- The same rectangle, as the second loop addresses it. -/
abbrev rC' (k1 : Fin k0_t1_loop.trips) (t : Fin k0_t3_loop.trips) : Rect S1x128x2048 :=
  Rect.unit (s := S1x128x2048) (k0_off9 k1 t) S1x64x128.size (k0_off9_inb k1 t)

/-- The tile of first moments of trip `t`, quarter `q`. -/
def mOf (t : Fin k0_t2_loop.trips) (q : Fin 4) : FVec F S16x128 .f32 :=
  mTile (decTile v3 v7 (arg8.view.readAt (Elt F) (rC k1 t).toLoadRect X8) q (a q))
    (arg7.view.readAt (Elt F) (rW k1 t q).toLoadRect X7)

/-- The tile of second moments of trip `t`, quarter `q`. -/
def vOf (t : Fin k0_t2_loop.trips) (q : Fin 4) : FVec F S16x128 .f32 :=
  vTile (decTile v11 v15 (arg9.view.readAt (Elt F) (rC k1 t).toLoadRect X9) q (b q))
    (arg7.view.readAt (Elt F) (rW k1 t q).toLoadRect X7)

/-- The tile of weights of trip `t`, quarter `q`. -/
def wOf (t : Fin k0_t2_loop.trips) (q : Fin 4) : FVec F S1x16x128 .bf16 :=
  wTile (mOf arg7 arg8 X7 X8 v3 v7 k1 a t q) (vOf arg7 arg9 X7 X9 v11 v15 k1 b t q)
    (arg6.view.readAt (Elt F) (rW k1 t q).toLoadRect X6)

/-- Four things written one after the other, the last first. -/
abbrev four {α : Type*} (f : Fin 4 → α) : List α := [f 3, f 2, f 1, f 0]

set_option maxHeartbeats 4000000 in
/-- What trip `t` of the first loop writes into the weights. -/
theorem t2_w (t : Fin k0_t2_loop.trips) (acc : FVec F S16x128 .f32 × FVec F S16x128 .f32 × FVec F S16x128 .f32 × FVec F S16x128 .f32 × FVec F S16x128 .f32 × FVec F S16x128 .f32 × FVec F S16x128 .f32 × FVec F S16x128 .f32) :
    (trip_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v7 v11 v15 0#32 1#32 k1 v34 v37 (a 0) (a 1) (a 2) (a 3) (b 0) (b 1) (b 2) (b 3) X6 X7 X8 X9 t).2.1 acc
      = four fun q => ⟨rW k1 t q, wOf arg6 arg7 arg8 arg9 X6 X7 X8 X9 v3 v7 v11 v15 k1 a b t q⟩ := by
  unfold trip_k0_t2
  rfl

set_option maxHeartbeats 4000000 in
/-- What trip `t` of the first loop writes into the scratch buffer of first moments. -/
theorem t2_m (t : Fin k0_t2_loop.trips) (acc : FVec F S16x128 .f32 × FVec F S16x128 .f32 × FVec F S16x128 .f32 × FVec F S16x128 .f32 × FVec F S16x128 .f32 × FVec F S16x128 .f32 × FVec F S16x128 .f32 × FVec F S16x128 .f32) :
    (trip_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v7 v11 v15 0#32 1#32 k1 v34 v37 (a 0) (a 1) (a 2) (a 3) (b 0) (b 1) (b 2) (b 3) X6 X7 X8 X9 t).2.2.1 acc
      = four fun q => ⟨rS k1 t q, shapeCast S16x128 (mOf arg7 arg8 X7 X8 v3 v7 k1 a t q) shapeCasts_S16x128_S16x128⟩ := by
  unfold trip_k0_t2
  rfl

set_option maxHeartbeats 4000000 in
/-- What trip `t` of the first loop writes into the scratch buffer of second moments. -/
theorem t2_v (t : Fin k0_t2_loop.trips) (acc : FVec F S16x128 .f32 × FVec F S16x128 .f32 × FVec F S16x128 .f32 × FVec F S16x128 .f32 × FVec F S16x128 .f32 × FVec F S16x128 .f32 × FVec F S16x128 .f32 × FVec F S16x128 .f32) :
    (trip_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v7 v11 v15 0#32 1#32 k1 v34 v37 (a 0) (a 1) (a 2) (a 3) (b 0) (b 1) (b 2) (b 3) X6 X7 X8 X9 t).2.2.2.1 acc
      = four fun q => ⟨rS k1 t q, shapeCast S16x128 (vOf arg7 arg9 X7 X9 v11 v15 k1 b t q) shapeCasts_S16x128_S16x128⟩ := by
  unfold trip_k0_t2
  rfl

set_option maxHeartbeats 4000000 in
/-- What trip `t` of the first loop carries on: the running maxima of the absolute values. -/
theorem t2_r (t : Fin k0_t2_loop.trips) (acc : FVec F S16x128 .f32 × FVec F S16x128 .f32 × FVec F S16x128 .f32 × FVec F S16x128 .f32 × FVec F S16x128 .f32 × FVec F S16x128 .f32 × FVec F S16x128 .f32 × FVec F S16x128 .f32) :
    (trip_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v7 v11 v15 0#32 1#32 k1 v34 v37 (a 0) (a 1) (a 2) (a 3) (b 0) (b 1) (b 2) (b 3) X6 X7 X8 X9 t).1 acc
      = (maximumf acc.1 (absf (mOf arg7 arg8 X7 X8 v3 v7 k1 a t 0)), maximumf acc.2.1 (absf (vOf arg7 arg9 X7 X9 v11 v15 k1 b t 0)),
         maximumf acc.2.2.1 (absf (mOf arg7 arg8 X7 X8 v3 v7 k1 a t 1)), maximumf acc.2.2.2.1 (absf (vOf arg7 arg9 X7 X9 v11 v15 k1 b t 1)),
         maximumf acc.2.2.2.2.1 (absf (mOf arg7 arg8 X7 X8 v3 v7 k1 a t 2)), maximumf acc.2.2.2.2.2.1 (absf (vOf arg7 arg9 X7 X9 v11 v15 k1 b t 2)),
         maximumf acc.2.2.2.2.2.2.1 (absf (mOf arg7 arg8 X7 X8 v3 v7 k1 a t 3)), maximumf acc.2.2.2.2.2.2.2 (absf (vOf arg7 arg9 X7 X9 v11 v15 k1 b t 3))) := by
  unfold trip_k0_t2
  rfl

end T2

section T3

variable (v16 v20 v24 v28 : Vec F S1x128 .f32) (k1 : Fin k0_t1_loop.trips) (v34 : BitVec 32) (acc7 : FVec F S16x128 .f32)
  (im iv : Fin 4 → FVec F S16x1 .f32) (am3 : FVec F S16x1 .f32)
  (X17 : BufTy.Contents (Elt F) arg17.view.ty) (X18 : BufTy.Contents (Elt F) arg18.view.ty)

set_option maxHeartbeats 4000000 in
/-- What trip `t` of the second loop writes into the first moments' codes. -/
theorem t3_m (h3 : im 3 = invTile am3) (t : Fin k0_t3_loop.trips) :
    (trip_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k1 v34 acc7 (im 0) (iv 0) (im 1) (iv 1) (im 2) (iv 2) am3 X17 X18 t).1
      = [⟨rC' k1 t, packTile fun q => encTile (k0_pay5 v16) (k0_pay6 v20) (scaleTile (arg17.view.readAt (Elt F) (rS' k1 t q).toLoadRect X17) (im q))⟩] := by
  unfold trip_k0_t3 packTile
  dsimp only
  rw [h3]
  rfl

set_option maxHeartbeats 4000000 in
/-- What trip `t` of the second loop writes into the second moments' codes. -/
theorem t3_v (h3 : iv 3 = invTile (absTile acc7)) (t : Fin k0_t3_loop.trips) :
    (trip_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k1 v34 acc7 (im 0) (iv 0) (im 1) (iv 1) (im 2) (iv 2) am3 X17 X18 t).2.1
      = [⟨rC' k1 t, packTile fun q => encTile (k0_pay7 v24) (k0_pay8 v28) (scaleTile (arg18.view.readAt (Elt F) (rS' k1 t q).toLoadRect X18) (iv q))⟩] := by
  unfold trip_k0_t3 packTile
  dsimp only
  rw [h3]
  rfl

end T3

end Cert.KernelIdeal.Hand

end
-- ==== Proof.KI.Loops.lean ====
module

public import proofs.«01_k».proof.Proof.KI.Lists

/-! What one trip of the outer loop writes: the two inner loops put together. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The members of four new pieces in front of those of the earlier trips. -/
theorem mem_four_or {α : Type*} {N n : ℕ} (f : Fin N → Fin 4 → α) (h : n < N) {p : α} :
    (p ∈ (four fun q => f ⟨n, h⟩ q) ∨ ∃ (t : Fin N) (q : Fin 4), t.val < n ∧ p = f t q)
      ↔ ∃ (t : Fin N) (q : Fin 4), t.val < n + 1 ∧ p = f t q := by
  constructor
  · rintro (hp | ⟨t, q, ht, rfl⟩)
    · simp only [four, List.mem_cons, List.not_mem_nil, or_false] at hp
      rcases hp with rfl | rfl | rfl | rfl
      exacts [⟨_, 3, Nat.lt_succ_self n, rfl⟩, ⟨_, 2, Nat.lt_succ_self n, rfl⟩, ⟨_, 1, Nat.lt_succ_self n, rfl⟩, ⟨_, 0, Nat.lt_succ_self n, rfl⟩]
    · exact ⟨t, q, by omega, rfl⟩
  · rintro ⟨t, q, ht, rfl⟩
    rcases Nat.lt_succ_iff_lt_or_eq.1 ht with h' | h'
    · exact .inr ⟨t, q, h', rfl⟩
    · have e : t = ⟨n, h⟩ := Fin.ext h'
      subst e
      left
      fin_cases q <;> simp [four]

/-- The members of one new piece in front of those of the earlier trips. -/
theorem mem_one_or {α : Type*} {N n : ℕ} (f : Fin N → α) (h : n < N) {p : α} :
    (p ∈ [f ⟨n, h⟩] ∨ ∃ t : Fin N, t.val < n ∧ p = f t) ↔ ∃ t : Fin N, t.val < n + 1 ∧ p = f t := by
  constructor
  · rintro (hp | ⟨t, ht, rfl⟩)
    · exact ⟨_, Nat.lt_succ_self n, List.mem_singleton.1 hp⟩
    · exact ⟨t, by omega, rfl⟩
  · rintro ⟨t, ht, rfl⟩
    rcases Nat.lt_succ_iff_lt_or_eq.1 ht with h' | h'
    · exact .inr ⟨t, h', rfl⟩
    · have e : t = ⟨n, h⟩ := Fin.ext h'
      subst e
      exact .inl (List.mem_singleton.2 rfl)

/-- The running maximum, over the trips before the `n`th, of the absolute values of the tiles `f`. -/
def runTile (f : Fin k0_t2_loop.trips → FVec F S16x128 .f32) : ℕ → FVec F S16x128 .f32
  | 0 => broadcast S16x128 (Scalar.ofBits .f32 0x00000000#32)
  | n + 1 => if h : n < k0_t2_loop.trips then maximumf (runTile f n) (absf (f ⟨n, h⟩)) else runTile f n

/-- Where group `k1`'s scales of quarter `q` stand. -/
def offA (k1 : Fin k0_t1_loop.trips) : Fin 4 → Fin 3 → ℕ
  | 0 => k0_off1 k1
  | 1 => k0_off2 k1
  | 2 => k0_off3 k1
  | 3 => k0_off4 k1

theorem offA_inb (k1 : Fin k0_t1_loop.trips) : ∀ (q : Fin 4) a, offA k1 q a + S1x16x1.size a ≤ S1x32x4.size a
  | 0 => k0_off1_inb k1
  | 1 => k0_off2_inb k1
  | 2 => k0_off3_inb k1
  | 3 => k0_off4_inb k1

/-- The rectangle of group `k1`'s scales of quarter `q`. -/
abbrev rA (k1 : Fin k0_t1_loop.trips) (q : Fin 4) : Rect S1x32x4 :=
  Rect.unit (s := S1x32x4) (offA k1 q) S1x16x1.size (offA_inb k1 q)

variable (c : Dev nD)
  (i : grid0.Coords) (arg2 : Memref sig .tc .vmem S2x128 .f32) (harg2 : arg2.IsWhole)
  (arg3 : Memref sig .tc .vmem S2x128 .f32) (harg3 : arg3.IsWhole) (arg4 : Memref sig .tc .vmem S2x128 .f32)
  (harg4 : arg4.IsWhole) (arg5 : Memref sig .tc .vmem S2x128 .f32) (harg5 : arg5.IsWhole)
  (arg6 : Memref sig .tc .vmem S1x32x8192 .bf16) (harg6 : arg6.IsWhole) (arg7 : Memref sig .tc .vmem S1x32x8192 .bf16)
  (harg7 : arg7.IsWhole) (arg8 : Memref sig .tc .vmem S1x128x2048 .i8) (harg8 : arg8.IsWhole)
  (arg9 : Memref sig .tc .vmem S1x128x2048 .i8) (harg9 : arg9.IsWhole) (arg10 : Memref sig .tc .vmem S1x32x4 .f32)
  (harg10 : arg10.IsWhole) (arg11 : Memref sig .tc .vmem S1x32x4 .f32) (harg11 : arg11.IsWhole)
  (arg12 : Memref sig .tc .vmem S1x32x8192 .bf16) (harg12 : arg12.IsWhole) (arg13 : Memref sig .tc .vmem S1x128x2048 .i8)
  (harg13 : arg13.IsWhole) (arg14 : Memref sig .tc .vmem S1x128x2048 .i8) (harg14 : arg14.IsWhole)
  (arg15 : Memref sig .tc .vmem S1x32x4 .f32) (harg15 : arg15.IsWhole) (arg16 : Memref sig .tc .vmem S1x32x4 .f32)
  (harg16 : arg16.IsWhole) (arg17 : Memref sig .tc .vmem S32x8192 .f32) (harg17 : arg17.IsWhole)
  (arg18 : Memref sig .tc .vmem S32x8192 .f32) (harg18 : arg18.IsWhole)

section T2

variable
  (X6 : BufTy.Contents (Elt F) arg6.view.ty) (X7 : BufTy.Contents (Elt F) arg7.view.ty)
  (X8 : BufTy.Contents (Elt F) arg8.view.ty) (X9 : BufTy.Contents (Elt F) arg9.view.ty)
  (v3 v7 v11 v15 : FVec F S16x128 .f32) (k1 : Fin k0_t1_loop.trips) (v34 v37 : BitVec 32)
  (a b : Fin 4 → Vec F S1x16x1 .f32)

/-- The running maxima the first loop carries before its trip `n`. -/
theorem st_r (n : ℕ) (hn : n ≤ k0_t2_loop.trips) :
    (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v7 v11 v15 0#32 1#32 k1 v34 v37 (a 0) (a 1) (a 2) (a 3) (b 0) (b 1) (b 2) (b 3) X6 X7 X8 X9 (k0_pay138, k0_pay138, k0_pay138, k0_pay138, k0_pay138, k0_pay138, k0_pay138, k0_pay138) n).1
      = (runTile (mOf arg7 arg8 X7 X8 v3 v7 k1 a · 0) n, runTile (vOf arg7 arg9 X7 X9 v11 v15 k1 b · 0) n,
         runTile (mOf arg7 arg8 X7 X8 v3 v7 k1 a · 1) n, runTile (vOf arg7 arg9 X7 X9 v11 v15 k1 b · 1) n,
         runTile (mOf arg7 arg8 X7 X8 v3 v7 k1 a · 2) n, runTile (vOf arg7 arg9 X7 X9 v11 v15 k1 b · 2) n,
         runTile (mOf arg7 arg8 X7 X8 v3 v7 k1 a · 3) n, runTile (vOf arg7 arg9 X7 X9 v11 v15 k1 b · 3) n) := by
  induction n with
  | zero => rfl
  | succ n ih =>
    have h : n < k0_t2_loop.trips := hn
    rw [st_k0_t2_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v7 v11 v15 0#32 1#32 k1 v34 v37 (a 0) (a 1) (a 2) (a 3) (b 0) (b 1) (b 2) (b 3) X6 X7 X8 X9 _ ⟨n, h⟩]
    simp only [tripR_k0_t2]
    rw [t2_r, ih h.le]
    simp only [runTile, dif_pos h]

/-- The pieces of the trips before the `n`th: those of weights, of first moments and of second moments. -/
theorem st_l (n : ℕ) (hn : n ≤ k0_t2_loop.trips) :
    (∀ p, p ∈ (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v7 v11 v15 0#32 1#32 k1 v34 v37 (a 0) (a 1) (a 2) (a 3) (b 0) (b 1) (b 2) (b 3) X6 X7 X8 X9 (k0_pay138, k0_pay138, k0_pay138, k0_pay138, k0_pay138, k0_pay138, k0_pay138, k0_pay138) n).2.1 ↔ ∃ (t : Fin k0_t2_loop.trips) (q : Fin 4), t.val < n ∧
      p = ⟨rW k1 t q, wOf arg6 arg7 arg8 arg9 X6 X7 X8 X9 v3 v7 v11 v15 k1 a b t q⟩)
    ∧ (∀ p, p ∈ (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v7 v11 v15 0#32 1#32 k1 v34 v37 (a 0) (a 1) (a 2) (a 3) (b 0) (b 1) (b 2) (b 3) X6 X7 X8 X9 (k0_pay138, k0_pay138, k0_pay138, k0_pay138, k0_pay138, k0_pay138, k0_pay138, k0_pay138) n).2.2.1 ↔ ∃ (t : Fin k0_t2_loop.trips) (q : Fin 4), t.val < n ∧
      p = ⟨rS k1 t q, shapeCast S16x128 (mOf arg7 arg8 X7 X8 v3 v7 k1 a t q) shapeCasts_S16x128_S16x128⟩)
    ∧ (∀ p, p ∈ (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v7 v11 v15 0#32 1#32 k1 v34 v37 (a 0) (a 1) (a 2) (a 3) (b 0) (b 1) (b 2) (b 3) X6 X7 X8 X9 (k0_pay138, k0_pay138, k0_pay138, k0_pay138, k0_pay138, k0_pay138, k0_pay138, k0_pay138) n).2.2.2 ↔ ∃ (t : Fin k0_t2_loop.trips) (q : Fin 4), t.val < n ∧
      p = ⟨rS k1 t q, shapeCast S16x128 (vOf arg7 arg9 X7 X9 v11 v15 k1 b t q) shapeCasts_S16x128_S16x128⟩) := by
  induction n with
  | zero => refine ⟨?_, ?_, ?_⟩ <;> intro p <;> simp [st_k0_t2]
  | succ n ih =>
    have h : n < k0_t2_loop.trips := hn
    obtain ⟨i1, i2, i3⟩ := ih h.le
    rw [st_k0_t2_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v7 v11 v15 0#32 1#32 k1 v34 v37 (a 0) (a 1) (a 2) (a 3) (b 0) (b 1) (b 2) (b 3) X6 X7 X8 X9 _ ⟨n, h⟩]
    simp only [tripL_k0_t2]
    rw [t2_w, t2_m, t2_v]
    refine ⟨fun p => ?_, fun p => ?_, fun p => ?_⟩
    · rw [List.mem_append, i1 p, mem_four_or (fun t q => (⟨rW k1 t q, wOf arg6 arg7 arg8 arg9 X6 X7 X8 X9 v3 v7 v11 v15 k1 a b t q⟩ : View.Piece (Elt F) S1x32x8192 .bf16)) h]
    · rw [List.mem_append, i2 p, mem_four_or (fun t q => (⟨rS k1 t q, shapeCast S16x128 (mOf arg7 arg8 X7 X8 v3 v7 k1 a t q) shapeCasts_S16x128_S16x128⟩ : View.Piece (Elt F) S32x8192 .f32)) h]
    · rw [List.mem_append, i3 p, mem_four_or (fun t q => (⟨rS k1 t q, shapeCast S16x128 (vOf arg7 arg9 X7 X9 v11 v15 k1 b t q) shapeCasts_S16x128_S16x128⟩ : View.Piece (Elt F) S32x8192 .f32)) h]

end T2

section T3

variable (v16 v20 v24 v28 : Vec F S1x128 .f32) (k1 : Fin k0_t1_loop.trips) (v34 : BitVec 32) (acc7 : FVec F S16x128 .f32)
  (im iv : Fin 4 → FVec F S16x1 .f32) (am3 : FVec F S16x1 .f32)
  (X17 : BufTy.Contents (Elt F) arg17.view.ty) (X18 : BufTy.Contents (Elt F) arg18.view.ty)

/-- The tile of codes that trip `t` of the second loop makes from a scratch buffer. -/
def codesOf (v : Memref sig .tc .vmem S32x8192 .f32) (X : BufTy.Contents (Elt F) v.view.ty) (lo hi : FVec F S16x128 .f32)
    (im : Fin 4 → FVec F S16x1 .f32) (k1 : Fin k0_t1_loop.trips) (t : Fin k0_t3_loop.trips) : IVec S1x64x128 8 :=
  packTile fun q => encTile lo hi (scaleTile (v.view.readAt (Elt F) (rS' k1 t q).toLoadRect X) (im q))

/-- The pieces of the trips of the second loop before the `n`th: those of the first and of the second moments' codes. -/
theorem pb_l (hm : im 3 = invTile am3) (hv : iv 3 = invTile (absTile acc7)) (n : ℕ) (hn : n ≤ k0_t3_loop.trips) :
    (∀ p, p ∈ (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k1 v34 acc7 (im 0) (iv 0) (im 1) (iv 1) (im 2) (iv 2) am3 X17 X18 n).1 ↔ ∃ t : Fin k0_t3_loop.trips, t.val < n ∧
      p = ⟨rC' k1 t, codesOf arg17 X17 (k0_pay5 v16) (k0_pay6 v20) im k1 t⟩)
    ∧ (∀ p, p ∈ (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k1 v34 acc7 (im 0) (iv 0) (im 1) (iv 1) (im 2) (iv 2) am3 X17 X18 n).2 ↔ ∃ t : Fin k0_t3_loop.trips, t.val < n ∧
      p = ⟨rC' k1 t, codesOf arg18 X18 (k0_pay7 v24) (k0_pay8 v28) iv k1 t⟩) := by
  induction n with
  | zero => refine ⟨?_, ?_⟩ <;> intro p <;> simp [pb_k0_t3]
  | succ n ih =>
    have h : n < k0_t3_loop.trips := hn
    obtain ⟨i1, i2⟩ := ih h.le
    rw [pb_k0_t3_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k1 v34 acc7 (im 0) (iv 0) (im 1) (iv 1) (im 2) (iv 2) am3 X17 X18 ⟨n, h⟩]
    have e1 := t3_m c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k1 v34 acc7 im iv am3 X17 X18 hm ⟨n, h⟩
    have e2 := t3_v c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k1 v34 acc7 im iv am3 X17 X18 hv ⟨n, h⟩
    exact ⟨fun p => (List.mem_append.trans (or_congr (iff_of_eq (congrArg (p ∈ ·) e1)) (i1 p))).trans
        (mem_one_or (fun t => (⟨rC' k1 t, codesOf arg17 X17 (k0_pay5 v16) (k0_pay6 v20) im k1 t⟩ : View.Piece (Elt F) S1x128x2048 .i8)) h),
      fun p => (List.mem_append.trans (or_congr (iff_of_eq (congrArg (p ∈ ·) e2)) (i2 p))).trans
        (mem_one_or (fun t => (⟨rC' k1 t, codesOf arg18 X18 (k0_pay7 v24) (k0_pay8 v28) iv k1 t⟩ : View.Piece (Elt F) S1x128x2048 .i8)) h)⟩

end T3

end Cert.KernelIdeal.Hand

end
-- ==== Proof.KI.Cells.lean ====
module

public import proofs.«01_k».proof.Proof.KI.Tiles
public import Idealize.ShloMosaic.Lib.BitcastFour
public import Idealize.ShloMosaic.Lib.ValueIdx
public import Idealize.ShloMosaic.Lib.Pipeline.Value

/-! The step of the optimiser element by element, over the contents of one block of the operands, and each tile of the two inner
loops read at one of its elements. Everything is indexed by natural numbers: row `r`, quarter `q` of the row, column `l` of the
quarter. -/

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic

variable {F : FTy → Type} [FloatOps F]

/-- The operands of one block: the two tables and their midpoints, the weights and gradients by row and column, the codes by row and
column (row `4 r + q` holds quarter `q` of row `r`), the scales by row and quarter. -/
structure Ins (F : FTy → Type) where
  qm : ℕ → F .f32
  qv : ℕ → F .f32
  dm : ℕ → F .f32
  dv : ℕ → F .f32
  w : ℕ → ℕ → F .bf16
  g : ℕ → ℕ → F .bf16
  mc : ℕ → ℕ → BitVec 8
  vc : ℕ → ℕ → BitVec 8
  ma : ℕ → ℕ → F .f32
  va : ℕ → ℕ → F .f32

/-- A bf16 value widened. -/
def up (x : F .bf16) : F .f32 := FloatOps.extf .f32 bitsLt_bf16_f32 x

/-- The new first moment from the old one and the gradient. -/
def mStep (d : F .f32) (g : F .bf16) : F .f32 :=
  FloatOps.addf (FloatOps.mulf (Scalar.ofBits .f32 0x3F666666#32) d) (FloatOps.mulf (Scalar.ofBits .f32 0x3DCCCCCD#32) (up g))

/-- The new second moment from the old one and the gradient. -/
def vStep (d : F .f32) (g : F .bf16) : F .f32 :=
  FloatOps.addf (FloatOps.mulf (Scalar.ofBits .f32 0x3F7FBE77#32) d)
    (FloatOps.mulf (FloatOps.mulf (Scalar.ofBits .f32 0x3A83126F#32) (up g)) (up g))

/-- The new weight from the new moments and the old weight. -/
def wStep (m v : F .f32) (w : F .bf16) : F .bf16 :=
  FloatOps.truncf .bf16 bitsLt_bf16_f32 (FloatOps.subf (FloatOps.mulf (up w) (Scalar.ofBits .f32 0x3F7C28F6#32))
    (FloatOps.divf (FloatOps.mulf (Scalar.ofBits .f32 0x3AC8C9B9#32) m)
      (FloatOps.addf (FloatOps.sqrt v) (Scalar.ofBits .f32 0x30892154#32))))

/-- The new first moment at row `r`, quarter `q`, column `l`. -/
def mCell (I : Ins F) (r q l : ℕ) : F .f32 :=
  mStep (FloatOps.mulf (I.qm (I.mc (4 * r + q) l).toNat) (I.ma r q)) (I.g r (2048 * q + l))

/-- The new second moment at row `r`, quarter `q`, column `l`. -/
def vCell (I : Ins F) (r q l : ℕ) : F .f32 :=
  vStep (FloatOps.mulf (I.qv (I.vc (4 * r + q) l).toNat) (I.va r q)) (I.g r (2048 * q + l))

/-- The new weight at row `r`, quarter `q`, column `l`. -/
def wCell (I : Ins F) (r q l : ℕ) : F .bf16 := wStep (mCell I r q l) (vCell I r q l) (I.w r (2048 * q + l))

/-- The running maximum of the absolute values of `f 0`, …, `f (n - 1)`, from zero. -/
def runMax (f : ℕ → F .f32) : ℕ → F .f32
  | 0 => Scalar.ofBits .f32 0x00000000#32
  | n + 1 => FloatOps.maximumf (runMax f n) (FloatOps.absf (f n))

/-- The new scale of quarter `q` of row `r`, for moments `f`: the largest over the 128 lanes of the running maxima over the 16 trips. -/
def amax (f : ℕ → ℕ → ℕ → F .f32) (r q : ℕ) : F .f32 :=
  absTile (fun x : S16x128.Idx => runMax (fun t => f (16 * (r / 16) + (x 0).val) q (128 * t + (x 1).val)) 16)
    (ix2 (⟨r % 16, Nat.mod_lt _ (by decide)⟩ : Fin 16) (0 : Fin 1))

/-- One over the scale, or one where it is not positive. -/
def inv (a : F .f32) : F .f32 :=
  FloatOps.divf (Scalar.ofBits .f32 0x3F800000#32)
    (Scalar.select (FloatOps.cmpf .ogt a (Scalar.ofBits .f32 0x00000000#32)) a (Scalar.ofBits .f32 0x3F800000#32))

/-- One step of the search in the midpoints `T`. -/
def step (T : ℕ → F .f32) (y : F .f32) (s c : ℕ) : ℕ := if FloatOps.cmpf .olt (T (c + (s - 1))) y = 1#1 then c + s else c

/-- The code of `y` among the midpoints `T`, by eight steps. -/
def enc (T : ℕ → F .f32) (y : F .f32) : ℕ :=
  step T y 1 (step T y 2 (step T y 4 (step T y 8 (step T y 16 (step T y 32 (step T y 64 (step T y 128 0)))))))

theorem step_le (T : ℕ → F .f32) (y : F .f32) (s c : ℕ) : step T y s c ≤ c + s := by
  unfold step; split <;> omega

/-- The code's number at quarter `q` of row `r`, column `l`, for moments `f` and midpoints `T`. -/
def codeCell (T : ℕ → F .f32) (f : ℕ → ℕ → ℕ → F .f32) (r q l : ℕ) : ℕ :=
  enc T (FloatOps.mulf (f r q l) (inv (amax f r q)))

/-! ### The tiles at an element -/

theorem byteOf_apply (x : Vec F S1x64x128 .i8) (q : Fin 4) (a : Fin 16) (l : Fin 128) :
    byteOf (F := F) x q (ix2 a l) = (x (ix3 (0 : Fin 1) (⟨4 * a.val + q.val, by omega⟩ : Fin 64) l) : BitVec 8).setWidth 32 := by
  have hb : ∀ i, i < 32 → ∀ (p : Fin 64), p.val = 4 * a.val + i / 8 →
      (bitcast S16x128 32 (shapeCast S64x128 x shapeCasts_S1x64x128_S64x128) bitcasts_S64x128_w8_S16x128_w32 (ix2 a l)).getLsbD i
        = (x (ix3 (0 : Fin 1) p l) : BitVec 8).getLsbD (i % 8) := by
    intro i hi p hp
    have := bitcast_8_32_getLsbD_ix2 (shapeCast S64x128 x shapeCasts_S1x64x128_S64x128) bitcasts_S64x128_w8_S16x128_w32 a l i hi p hp
    refine this.trans (congrArg (fun b : BitVec 8 => b.getLsbD (i % 8)) ?_)
    exact shapeCast_dropUnit_apply _ x _ (ix2 p l) |>.trans (congrArg x (by funext d; fin_cases d <;> rfl))
  show IntOp.andi (IntOp.shrsi .vector _ (BitVec.ofNat 32 (8 * q.val))) 255#32 = _
  generalize bitcast S16x128 32 (shapeCast S64x128 x shapeCasts_S1x64x128_S64x128) bitcasts_S64x128_w8_S16x128_w32 (ix2 a l) = w at hb ⊢
  have hq : (BitVec.ofNat 32 (8 * q.val)).toNat = 8 * q.val := by
    rw [BitVec.toNat_ofNat]; exact Nat.mod_eq_of_lt (by omega)
  have hsh : IntOp.shrsi .vector w (BitVec.ofNat 32 (8 * q.val)) = w.sshiftRight (8 * q.val) := by
    unfold IntOp.shrsi
    rw [if_pos (by rw [hq]; omega), BitVec.sshiftRight', hq]
  rw [hsh]
  apply BitVec.eq_of_getLsbD_eq
  intro i hi
  have h255 : (255#32 : BitVec 32).getLsbD i = decide (i < 8) := by
    have : i < 32 := hi
    interval_cases i <;> rfl
  simp only [IntOp.andi, BitVec.getLsbD_and, BitVec.getLsbD_sshiftRight, BitVec.getLsbD_setWidth, h255]
  by_cases h : i < 8
  · have hlt : 8 * q.val + i < 32 := by omega
    have := hb (8 * q.val + i) hlt ⟨4 * a.val + q.val, by omega⟩ (by simp; omega)
    rw [this]
    have e : (8 * q.val + i) % 8 = i := by omega
    simp [h, e, hlt, hi, show ¬ 32 ≤ i by omega]
  · have : (x (ix3 (0 : Fin 1) (⟨4 * a.val + q.val, by omega⟩ : Fin 64) l) : BitVec 8).getLsbD i = false :=
      BitVec.getLsbD_of_ge _ i (by omega)
    simp [h, this]

/-- The two rows of a table, each repeated in the sixteen rows of a tile. -/
def IsTable (T : ℕ → F .f32) (lo hi : FVec F S16x128 .f32) : Prop :=
  ∀ (a : Fin 16) (n : Fin 128), lo (ix2 a n) = T n.val ∧ hi (ix2 a n) = T (128 + n.val)

theorem look_apply {T : ℕ → F .f32} {lo hi : FVec F S16x128 .f32} (hT : IsTable T lo hi) (idx : IVec S16x128 32) (a : Fin 16) (l : Fin 128)
    (n : ℕ) (hn : n < 256) (h : idx (ix2 a l) = BitVec.ofNat 32 n) : look lo hi idx (ix2 a l) = T n := by
  have hc : ∀ z : IVec S16x128 32, shapeCast S16x128 (shapeCast S16x128x1 z shapeCasts_S16x128_S16x128x1) shapeCasts_S16x128x1_S16x128 = z := by
    intro z; funext j; simp only [shapeCast, Equiv.apply_symm_apply, Equiv.symm_apply_apply]
    exact congrArg z (Shape.reshapeEquiv_eq_of_rowMajor _ (by rw [Shape.rowMajor_reshapeEquiv]))
  unfold look
  rw [hc]
  have hand : (IntOp.andi (idx (ix2 a l)) 127#32).toNat = n % 128 := by
    rw [h]; simp only [IntOp.andi, BitVec.toNat_and, BitVec.toNat_ofNat]
    rw [Nat.mod_eq_of_lt (by omega : n < 2 ^ 32)]
    exact Nat.and_two_pow_sub_one_eq_mod n 7
  have hg : ∀ z : FVec F S16x128 .f32, dynamicGather 1 z (andi idx (broadcast S16x128 127#32)) (ix2 a l)
      = z (ix2 a ⟨n % 128, Nat.mod_lt _ (by decide)⟩) := by
    intro z
    refine congrArg z ?_
    funext b
    fin_cases b
    · rfl
    · refine Fin.ext ?_
      show (IntOp.andi (idx (ix2 a l)) 127#32).toNat % 128 = n % 128
      rw [hand]; omega
  show Scalar.select (IntOp.cmpi .sge (idx (ix2 a l)) 128#32) _ _ = _
  rw [hg, hg, (hT a _).1, (hT a _).2, h]
  have hs : IntOp.cmpi .sge (BitVec.ofNat 32 n) 128#32 = BitVec.ofBool (decide (128 ≤ n)) := by
    simp only [IntOp.cmpi, BitVec.sle]
    congr 1
    have e : (BitVec.ofNat 32 n).toNat = n := by rw [BitVec.toNat_ofNat]; exact Nat.mod_eq_of_lt (by omega)
    rw [BitVec.toInt_eq_toNat_of_lt (x := BitVec.ofNat 32 n) (by rw [e]; omega), e]
    simp
  rw [hs]
  by_cases h' : 128 ≤ n
  · simp only [h', decide_true]
    show T _ = T n
    congr 1; show 128 + n % 128 = n; omega
  · simp only [h', decide_false]
    show T _ = T n
    congr 1; show n % 128 = n; omega

theorem decTile_apply {T : ℕ → F .f32} {lo hi : FVec F S16x128 .f32} (hT : IsTable T lo hi) (x : Vec F S1x64x128 .i8) (q : Fin 4)
    (a3 : Vec F S1x16x1 .f32) (a : Fin 16) (l : Fin 128) :
    decTile lo hi x q a3 (ix2 a l)
      = FloatOps.mulf (T (x (ix3 (0 : Fin 1) (⟨4 * a.val + q.val, by omega⟩ : Fin 64) l) : BitVec 8).toNat) (a3 (ix3 (0 : Fin 1) a (0 : Fin 1))) := by
  show FloatOps.mulf (look lo hi (byteOf (F := F) x q) (ix2 a l)) (broadcastTo S16x128 (shapeCast S16x1 a3 shapeCasts_S1x16x1_S16x1) broadcasts_S16x1_S16x128 (ix2 a l)) = _
  rw [look_apply hT _ a l (x (ix3 (0 : Fin 1) (⟨4 * a.val + q.val, by omega⟩ : Fin 64) l) : BitVec 8).toNat (BitVec.isLt _)
    (by rw [byteOf_apply]; apply BitVec.eq_of_toNat_eq; rw [BitVec.toNat_setWidth, BitVec.toNat_ofNat])]
  congr 1
  rw [broadcastTo_apply _ _ (ix2 a l) (ix2 a (0 : Fin 1)) (by intro d; fin_cases d <;> rfl)]
  exact (shapeCast_dropUnit_apply _ a3 _ (ix2 a (0 : Fin 1))).trans (congrArg a3 (by funext d; fin_cases d <;> rfl))

theorem upTile_apply (g : Vec F S1x16x128 .bf16) (a : Fin 16) (l : Fin 128) : upTile g (ix2 a l) = up (g (ix3 (0 : Fin 1) a l)) := by
  show FloatOps.extf .f32 _ (shapeCast S16x128 g shapeCasts_S1x16x128_S16x128 (ix2 a l)) = _
  rw [show shapeCast S16x128 g shapeCasts_S1x16x128_S16x128 (ix2 a l) = g (ix3 (0 : Fin 1) a l) from
    (shapeCast_dropUnit_apply _ g _ (ix2 a l)).trans (congrArg g (by funext d; fin_cases d <;> rfl))]
  rfl

theorem mTile_apply (d : FVec F S16x128 .f32) (g : Vec F S1x16x128 .bf16) (a : Fin 16) (l : Fin 128) :
    mTile d g (ix2 a l) = mStep (d (ix2 a l)) (g (ix3 (0 : Fin 1) a l)) := by
  rw [mStep, ← upTile_apply]; rfl

theorem vTile_apply (d : FVec F S16x128 .f32) (g : Vec F S1x16x128 .bf16) (a : Fin 16) (l : Fin 128) :
    vTile d g (ix2 a l) = vStep (d (ix2 a l)) (g (ix3 (0 : Fin 1) a l)) := by
  rw [vStep, ← upTile_apply]; rfl

theorem wTile_apply (m v : FVec F S16x128 .f32) (w : Vec F S1x16x128 .bf16) (a : Fin 16) (l : Fin 128) :
    wTile m v w (ix3 (0 : Fin 1) a l) = wStep (m (ix2 a l)) (v (ix2 a l)) (w (ix3 (0 : Fin 1) a l)) := by
  refine (shapeCast_addUnit_apply _ _ _ (ix3 (0 : Fin 1) a l)).trans ?_
  rw [show (fun d => ix3 (0 : Fin 1) a l (Fin.succ d)) = ix2 a l from by funext d; fin_cases d <;> rfl]
  rw [wStep, ← upTile_apply]; rfl

theorem scaleTile_apply (x : Vec F S16x128 .f32) (b : FVec F S16x1 .f32) (a : Fin 16) (l : Fin 128) :
    scaleTile x b (ix2 a l) = FloatOps.mulf (x (ix2 a l)) (b (ix2 a (0 : Fin 1))) := by
  show FloatOps.mulf (x (ix2 a l)) (broadcastTo S16x128 b broadcasts_S16x1_S16x128 (ix2 a l)) = _
  rw [broadcastTo_apply _ _ (ix2 a l) (ix2 a (0 : Fin 1)) (by intro d; fin_cases d <;> rfl)]

theorem stepTile_apply {T : ℕ → F .f32} {lo hi : FVec F S16x128 .f32} (hT : IsTable T lo hi) (y : FVec F S16x128 .f32) (s n : ℕ)
    (c : IVec S16x128 32) (a : Fin 16) (l : Fin 128) (hn : n + (s - 1) < 256) (hc : c (ix2 a l) = BitVec.ofNat 32 n) :
    stepTile lo hi y (BitVec.ofNat 32 s) (BitVec.ofNat 32 (s - 1)) c (ix2 a l) = BitVec.ofNat 32 (step T (y (ix2 a l)) s n) := by
  show Scalar.select (FloatOps.cmpf .olt (look lo hi (addi c (broadcast S16x128 (BitVec.ofNat 32 (s - 1)))) (ix2 a l)) (y (ix2 a l)))
    (c (ix2 a l) + BitVec.ofNat 32 s) (c (ix2 a l)) = _
  rw [look_apply hT _ a l (n + (s - 1)) hn (by
    show c (ix2 a l) + BitVec.ofNat 32 (s - 1) = _
    rw [hc, BitVec.ofNat_add]), hc]
  unfold step Scalar.select
  split
  · rename_i h; rw [if_pos (show _ = 1#1 from h), BitVec.ofNat_add]
  · rename_i h; rw [if_neg (show ¬ _ = 1#1 from h)]

theorem enc_lt (T : ℕ → F .f32) (y : F .f32) : enc T y < 256 := by
  have h1 := step_le T y 128 0
  have h2 := step_le T y 64 (step T y 128 0)
  have h3 := step_le T y 32 (step T y 64 (step T y 128 0))
  have h4 := step_le T y 16 (step T y 32 (step T y 64 (step T y 128 0)))
  have h5 := step_le T y 8 (step T y 16 (step T y 32 (step T y 64 (step T y 128 0))))
  have h6 := step_le T y 4 (step T y 8 (step T y 16 (step T y 32 (step T y 64 (step T y 128 0)))))
  have h7 := step_le T y 2 (step T y 4 (step T y 8 (step T y 16 (step T y 32 (step T y 64 (step T y 128 0))))))
  have h8 := step_le T y 1 (step T y 2 (step T y 4 (step T y 8 (step T y 16 (step T y 32 (step T y 64 (step T y 128 0)))))))
  unfold enc
  omega

theorem encTile_apply {T : ℕ → F .f32} {lo hi : FVec F S16x128 .f32} (hT : IsTable T lo hi) (y : FVec F S16x128 .f32)
    (a : Fin 16) (l : Fin 128) : encTile lo hi y (ix2 a l) = BitVec.ofNat 32 (enc T (y (ix2 a l))) := by
  generalize hy : y (ix2 a l) = z
  have h1 := step_le T z 128 0
  have h2 := step_le T z 64 (step T z 128 0)
  have h3 := step_le T z 32 (step T z 64 (step T z 128 0))
  have h4 := step_le T z 16 (step T z 32 (step T z 64 (step T z 128 0)))
  have h5 := step_le T z 8 (step T z 16 (step T z 32 (step T z 64 (step T z 128 0))))
  have h6 := step_le T z 4 (step T z 8 (step T z 16 (step T z 32 (step T z 64 (step T z 128 0)))))
  have h7 := step_le T z 2 (step T z 4 (step T z 8 (step T z 16 (step T z 32 (step T z 64 (step T z 128 0))))))
  unfold enc
  subst hy
  exact stepTile_apply hT y 1 _ _ a l (by omega) (stepTile_apply hT y 2 _ _ a l (by omega) (stepTile_apply hT y 4 _ _ a l (by omega)
    (stepTile_apply hT y 8 _ _ a l (by omega) (stepTile_apply hT y 16 _ _ a l (by omega) (stepTile_apply hT y 32 _ _ a l (by omega)
      (stepTile_apply hT y 64 _ _ a l (by omega) (stepTile_apply hT y 128 0 _ a l (by omega) rfl)))))))

theorem packTile_apply (c : Fin 4 → IVec S16x128 32) (e : Fin 4 → ℕ) (a : Fin 16) (l : Fin 128)
    (he : ∀ q, e q < 256) (hc : ∀ q, c q (ix2 a l) = BitVec.ofNat 32 (e q)) (q : Fin 4) (p : Fin 64)
    (hp : p.val = 4 * a.val + q.val) :
    packTile c (ix3 (0 : Fin 1) p l) = BitVec.ofNat 8 (e q) := by
  refine (shapeCast_addUnit_apply _ _ _ (ix3 (0 : Fin 1) p l)).trans ?_
  rw [show (fun d => ix3 (0 : Fin 1) p l (Fin.succ d)) = ix2 p l
    from by funext d; fin_cases d <;> rfl]
  have hw : ∀ q', IntOp.shli .vector (c q' (ix2 a l)) (BitVec.ofNat 32 (8 * q'.val)) = (BitVec.ofNat 8 (e q')).setWidth 32 <<< (8 * q'.val) := by
    intro q'
    have hq : (BitVec.ofNat 32 (8 * q'.val)).toNat = 8 * q'.val := by rw [BitVec.toNat_ofNat]; exact Nat.mod_eq_of_lt (by omega)
    unfold IntOp.shli
    rw [if_pos (by rw [hq]; omega), BitVec.shiftLeft_eq', hq, hc]
    congr 1
    apply BitVec.eq_of_toNat_eq
    rw [BitVec.toNat_setWidth, BitVec.toNat_ofNat, BitVec.toNat_ofNat, Nat.mod_eq_of_lt (he q')]
  apply BitVec.eq_of_getLsbD_eq
  intro i hi
  rw [bitcast_getLsbD _ _ _ i hi (by decide)]
  have hrow : Shape.row S64x128 (ix2 p l) = 4 * a.val + q.val := hp
  have hsrc : ∀ h, bitcasts_S16x128_w32_S64x128_w8.srcIdx (ix2 p l)
      ((Shape.row S64x128 (ix2 p l) * 8 + i) / 32) h = ix2 a l := by
    intro h
    funext d
    match d with
    | ⟨0, _⟩ => exact Fin.ext ((bitcasts_S16x128_w32_S64x128_w8.srcIdx_row _ _ _ ⟨0, Nat.zero_lt_two⟩ rfl).trans (by rw [hrow]; show _ = a.val; omega))
    | ⟨1, _⟩ => exact Fin.ext (bitcasts_S16x128_w32_S64x128_w8.srcIdx_other _ _ _ ⟨1, Nat.one_lt_two⟩ (by show ¬ 1 + 2 = 2; omega))
  rw [hsrc]
  show (IntOp.shli .vector (c 0 (ix2 a l)) (BitVec.ofNat 32 (8 * (0 : Fin 4).val)) ||| IntOp.shli .vector (c 1 (ix2 a l)) (BitVec.ofNat 32 (8 * (1 : Fin 4).val))
    ||| IntOp.shli .vector (c 2 (ix2 a l)) (BitVec.ofNat 32 (8 * (2 : Fin 4).val)) ||| IntOp.shli .vector (c 3 (ix2 a l)) (BitVec.ofNat 32 (8 * (3 : Fin 4).val))).getLsbD _ = _
  rw [hw, hw, hw, hw, hrow]
  have em : ((4 * a.val + q.val) * 8 + i) % 32 = 8 * q.val + i := by omega
  rw [em]
  have := four_bytes_getLsbD (fun q => BitVec.ofNat 8 (e q)) (8 * q.val + i) (by omega)
  refine Eq.trans ?_ (this.trans ?_)
  · simp
  · have e1 : (⟨(8 * q.val + i) / 8, by omega⟩ : Fin 4) = q := Fin.ext (by show (8 * q.val + i) / 8 = q.val; omega)
    have e2 : (8 * q.val + i) % 8 = i := by omega
    rw [e1, e2]

end Cert.KernelIdeal.Hand

end
-- ==== Proof.KI.Places.lean ====
module

public import proofs.«01_k».proof.Proof.KI.Loops
public import proofs.«01_k».proof.Proof.KI.Cells

/-! The tiles of one trip as values of the element-by-element step at the block's contents: where each rectangle lies, and what
the tile holds at each of its places. -/

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic

variable {F : FTy → Type} [FloatOps F]

/-- A table of two rows of 128 as a function of the entry's number. -/
def tab (T : Vec F S2x128 .f32) (n : ℕ) : F .f32 := T (ix2 (Fin.ofNat 2 (n / 128)) (Fin.ofNat 128 n))

/-- The operands of one block from the blocks of the ten arrays. -/
def blkIns (qm qv dm dv : Vec F S2x128 .f32) (w g : Vec F S1x32x8192 .bf16) (mc vc : Vec F S1x128x2048 .i8) (ma va : Vec F S1x32x4 .f32) :
    Ins F where
  qm := tab qm
  qv := tab qv
  dm := tab dm
  dv := tab dv
  w r j := w (ix3 (0 : Fin 1) (Fin.ofNat 32 r) (Fin.ofNat 8192 j))
  g r j := g (ix3 (0 : Fin 1) (Fin.ofNat 32 r) (Fin.ofNat 8192 j))
  mc r j := mc (ix3 (0 : Fin 1) (Fin.ofNat 128 r) (Fin.ofNat 2048 j))
  vc r j := vc (ix3 (0 : Fin 1) (Fin.ofNat 128 r) (Fin.ofNat 2048 j))
  ma r q := ma (ix3 (0 : Fin 1) (Fin.ofNat 32 r) (Fin.ofNat 4 q))
  va r q := va (ix3 (0 : Fin 1) (Fin.ofNat 32 r) (Fin.ofNat 4 q))

/-- The block of new weights. -/
def wBlk (I : Ins F) : Vec F S1x32x8192 .bf16 := fun y => wCell I (y 1).val ((y 2).val / 2048) ((y 2).val % 2048)

/-- The block of new moments, as a scratch buffer holds it. -/
def sBlk (f : ℕ → ℕ → ℕ → F .f32) : Vec F S32x8192 .f32 := fun y => f (y 0).val ((y 1).val / 2048) ((y 1).val % 2048)

/-- The block of new codes. -/
def cBlk (T : ℕ → F .f32) (f : ℕ → ℕ → ℕ → F .f32) : Vec F S1x128x2048 .i8 :=
  fun y => BitVec.ofNat 8 (codeCell T f ((y 1).val / 4) ((y 1).val % 4) (y 2).val)

/-- The block of new scales. -/
def aBlk (f : ℕ → ℕ → ℕ → F .f32) : Vec F S1x32x4 .f32 := fun y => amax f (y 1).val (y 2).val

/-! ### Where the rectangles lie -/

theorem trips1 : k0_t1_loop.trips = 2 := by decide +kernel
theorem trips2 : k0_t2_loop.trips = 16 := by decide +kernel
theorem trips3 : k0_t3_loop.trips = 16 := by decide +kernel

theorem off5_eq : ∀ (k : Fin k0_t1_loop.trips) (t : Fin k0_t2_loop.trips), k0_off5 k t = ![0, 64 * k.val, 128 * t.val] := by decide +kernel
theorem off6_eq : ∀ (k : Fin k0_t1_loop.trips) (t : Fin k0_t2_loop.trips) (q : Fin 4),
    k0_off6 k t (BitVec.ofNat 32 (2048 * q.val)) = ![0, 16 * k.val, 2048 * q.val + 128 * t.val] := by decide +kernel
theorem off7_eq : ∀ (k : Fin k0_t1_loop.trips) (t : Fin k0_t2_loop.trips) (q : Fin 4),
    k0_off7 k t (BitVec.ofNat 32 (2048 * q.val)) = ![16 * k.val, 2048 * q.val + 128 * t.val] := by decide +kernel
theorem off8_eq : ∀ (k : Fin k0_t1_loop.trips) (t : Fin k0_t3_loop.trips) (q : Fin 4),
    k0_off8 k t (BitVec.ofNat 32 (2048 * q.val)) = ![16 * k.val, 2048 * q.val + 128 * t.val] := by decide +kernel
theorem off9_eq : ∀ (k : Fin k0_t1_loop.trips) (t : Fin k0_t3_loop.trips), k0_off9 k t = ![0, 64 * k.val, 128 * t.val] := by decide +kernel
theorem offA_eq : ∀ (k : Fin k0_t1_loop.trips) (q : Fin 4), offA k q = ![0, 16 * k.val, q.val] := by decide +kernel

variable (k : Fin k0_t1_loop.trips)

theorem k_lt : k.val < 2 := k.isLt.trans_le trips1.le
theorem t2_lt (t : Fin k0_t2_loop.trips) : t.val < 16 := t.isLt.trans_le trips2.le
theorem t3_lt (t : Fin k0_t3_loop.trips) : t.val < 16 := t.isLt.trans_le trips3.le

theorem emb_rW (t : Fin k0_t2_loop.trips) (q : Fin 4) (a : Fin 16) (l : Fin 128) :
    (rW k t q).emb (ix3 (0 : Fin 1) a l) = ix3 (0 : Fin 1) (Fin.ofNat 32 (16 * k.val + a.val)) (Fin.ofNat 8192 (2048 * q.val + (128 * t.val + l.val))) := by
  have h1 := k_lt k; have h2 := t2_lt t
  apply Rect.emb_eq_of_coords
  intro d
  show _ = k0_off6 k t (BitVec.ofNat 32 (2048 * q.val)) d + 1 * _
  rw [off6_eq]
  fin_cases d
  · rfl
  · show (16 * k.val + a.val) % 32 = 16 * k.val + 1 * a.val; omega
  · show (2048 * q.val + (128 * t.val + l.val)) % 8192 = 2048 * q.val + 128 * t.val + 1 * l.val; omega

theorem emb_rS (t : Fin k0_t2_loop.trips) (q : Fin 4) (a : Fin 16) (l : Fin 128) :
    (rS k t q).emb (ix2 a l) = ix2 (Fin.ofNat 32 (16 * k.val + a.val)) (Fin.ofNat 8192 (2048 * q.val + (128 * t.val + l.val))) := by
  have h1 := k_lt k; have h2 := t2_lt t
  apply Rect.emb_eq_of_coords
  intro d
  show _ = k0_off7 k t (BitVec.ofNat 32 (2048 * q.val)) d + 1 * _
  rw [off7_eq]
  fin_cases d
  · show (16 * k.val + a.val) % 32 = 16 * k.val + 1 * a.val; omega
  · show (2048 * q.val + (128 * t.val + l.val)) % 8192 = 2048 * q.val + 128 * t.val + 1 * l.val; omega

theorem emb_rS' (t : Fin k0_t3_loop.trips) (q : Fin 4) (a : Fin 16) (l : Fin 128) :
    (rS' k t q).emb (ix2 a l) = ix2 (Fin.ofNat 32 (16 * k.val + a.val)) (Fin.ofNat 8192 (2048 * q.val + (128 * t.val + l.val))) := by
  have h1 := k_lt k; have h2 := t3_lt t
  apply Rect.emb_eq_of_coords
  intro d
  show _ = k0_off8 k t (BitVec.ofNat 32 (2048 * q.val)) d + 1 * _
  rw [off8_eq]
  fin_cases d
  · show (16 * k.val + a.val) % 32 = 16 * k.val + 1 * a.val; omega
  · show (2048 * q.val + (128 * t.val + l.val)) % 8192 = 2048 * q.val + 128 * t.val + 1 * l.val; omega

theorem emb_rC (t : Fin k0_t2_loop.trips) (p : Fin 64) (l : Fin 128) :
    (rC k t).emb (ix3 (0 : Fin 1) p l) = ix3 (0 : Fin 1) (Fin.ofNat 128 (64 * k.val + p.val)) (Fin.ofNat 2048 (128 * t.val + l.val)) := by
  have h1 := k_lt k; have h2 := t2_lt t
  apply Rect.emb_eq_of_coords
  intro d
  show _ = k0_off5 k t d + 1 * _
  rw [off5_eq]
  fin_cases d
  · rfl
  · show (64 * k.val + p.val) % 128 = 64 * k.val + 1 * p.val; omega
  · show (128 * t.val + l.val) % 2048 = 128 * t.val + 1 * l.val; omega

theorem emb_rC' (t : Fin k0_t3_loop.trips) (p : Fin 64) (l : Fin 128) :
    (rC' k t).emb (ix3 (0 : Fin 1) p l) = ix3 (0 : Fin 1) (Fin.ofNat 128 (64 * k.val + p.val)) (Fin.ofNat 2048 (128 * t.val + l.val)) := by
  have h1 := k_lt k; have h2 := t3_lt t
  apply Rect.emb_eq_of_coords
  intro d
  show _ = k0_off9 k t d + 1 * _
  rw [off9_eq]
  fin_cases d
  · rfl
  · show (64 * k.val + p.val) % 128 = 64 * k.val + 1 * p.val; omega
  · show (128 * t.val + l.val) % 2048 = 128 * t.val + 1 * l.val; omega

theorem emb_rA (q : Fin 4) (a : Fin 16) :
    (rA k q).emb (ix3 (0 : Fin 1) a (0 : Fin 1)) = ix3 (0 : Fin 1) (Fin.ofNat 32 (16 * k.val + a.val)) (Fin.ofNat 4 q.val) := by
  have h1 := k_lt k
  apply Rect.emb_eq_of_coords
  intro d
  show _ = offA k q d + 1 * _
  rw [offA_eq]
  fin_cases d
  · rfl
  · show (16 * k.val + a.val) % 32 = 16 * k.val + 1 * a.val; omega
  · show q.val % 4 = q.val + 1 * 0; omega

/-! ### What the rows before group `k + 1` are covered by -/

theorem cov_rW (y : S1x32x8192.Idx) (h0 : 16 * k.val ≤ (y 1).val) (h1 : (y 1).val < 16 * (k.val + 1)) :
    ∃ (t : Fin k0_t2_loop.trips) (q : Fin 4), y ∈ (rW k t q).set := by
  have hy : (y 2).val < 8192 := (y 2).isLt
  have hy0 : (y 0).val < 1 := (y 0).isLt
  refine ⟨⟨(y 2).val % 2048 / 128, by rw [trips2]; omega⟩, ⟨(y 2).val / 2048, by omega⟩, ?_⟩
  rw [Rect.mem_set_unit, off6_eq]
  intro d
  fin_cases d
  · show 0 ≤ (y 0).val ∧ (y 0).val < 0 + 1; omega
  · show 16 * k.val ≤ (y 1).val ∧ (y 1).val < 16 * k.val + 16; omega
  · show 2048 * ((y 2).val / 2048) + 128 * ((y 2).val % 2048 / 128) ≤ (y 2).val ∧ (y 2).val < 2048 * ((y 2).val / 2048) + 128 * ((y 2).val % 2048 / 128) + 128
    omega

theorem cov_rS (y : S32x8192.Idx) (h0 : 16 * k.val ≤ (y 0).val) (h1 : (y 0).val < 16 * (k.val + 1)) :
    ∃ (t : Fin k0_t2_loop.trips) (q : Fin 4), y ∈ (rS k t q).set := by
  have hy : (y 1).val < 8192 := (y 1).isLt
  refine ⟨⟨(y 1).val % 2048 / 128, by rw [trips2]; omega⟩, ⟨(y 1).val / 2048, by omega⟩, ?_⟩
  rw [Rect.mem_set_unit, off7_eq]
  intro d
  fin_cases d
  · show 16 * k.val ≤ (y 0).val ∧ (y 0).val < 16 * k.val + 16; omega
  · show 2048 * ((y 1).val / 2048) + 128 * ((y 1).val % 2048 / 128) ≤ (y 1).val ∧ (y 1).val < 2048 * ((y 1).val / 2048) + 128 * ((y 1).val % 2048 / 128) + 128
    omega

theorem cov_rC' (y : S1x128x2048.Idx) (h0 : 64 * k.val ≤ (y 1).val) (h1 : (y 1).val < 64 * (k.val + 1)) :
    ∃ t : Fin k0_t3_loop.trips, y ∈ (rC' k t).set := by
  have hy : (y 2).val < 2048 := (y 2).isLt
  have hy0 : (y 0).val < 1 := (y 0).isLt
  refine ⟨⟨(y 2).val / 128, by rw [trips3]; omega⟩, ?_⟩
  rw [Rect.mem_set_unit, off9_eq]
  intro d
  fin_cases d
  · show 0 ≤ (y 0).val ∧ (y 0).val < 0 + 1; omega
  · show 64 * k.val ≤ (y 1).val ∧ (y 1).val < 64 * k.val + 64; omega
  · show 128 * ((y 2).val / 128) ≤ (y 2).val ∧ (y 2).val < 128 * ((y 2).val / 128) + 128; omega

theorem cov_rA (y : S1x32x4.Idx) (h0 : 16 * k.val ≤ (y 1).val) (h1 : (y 1).val < 16 * (k.val + 1)) :
    ∃ q : Fin 4, y ∈ (rA k q).set := by
  have hy : (y 2).val < 4 := (y 2).isLt
  have hy0 : (y 0).val < 1 := (y 0).isLt
  refine ⟨⟨(y 2).val, hy⟩, ?_⟩
  rw [Rect.mem_set_unit, offA_eq]
  intro d
  fin_cases d
  · show 0 ≤ (y 0).val ∧ (y 0).val < 0 + 1; omega
  · show 16 * k.val ≤ (y 1).val ∧ (y 1).val < 16 * k.val + 16; omega
  · show (y 2).val ≤ (y 2).val ∧ (y 2).val < (y 2).val + 1; omega

end Cert.KernelIdeal.Hand

end
-- ==== Proof.KI.Whole.lean ====
module

public import proofs.«01_k».proof.Proof.KI.Places
public import proofs.«01_k».proof.Proof.Gen.KernelIdeal.Frame
public import Idealize.ShloMosaic.Lib.KernelVsHost

/-! The step of the optimiser over the whole arrays: the operands of one batch as functions of row and column, what the host operations
hand the kernel, and the block of each grid point as a part of its batch. -/

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic

variable {F : FTy → Type} [FloatOps F]

/-- A table of 256 entries by the entry's number. -/
def entry (T : Vec F S256 .f32) (n : ℕ) : F .f32 := T (ix1 (Fin.ofNat 256 n))

/-- The midpoint of a table's entries `n` and `n + 1`. -/
def midOf (T : ℕ → F .f32) (n : ℕ) : F .f32 := FloatOps.mulf (Scalar.ofBits .f32 0x3F000000#32) (FloatOps.addf (T n) (T (n + 1)))

/-- The midpoints of a table, and infinity after the last of them. -/
def mids (T : ℕ → F .f32) (n : ℕ) : F .f32 := if n < 255 then midOf T n else Scalar.ofBits .f32 0x7F800000#32

/-- The operands of batch `b` from the eight arrays. -/
def whole (w g : Vec F S3x640x8192 .bf16) (mc : Vec F S3x2560x2048 .i8) (ma : Vec F S3x2560 .f32) (vc : Vec F S3x2560x2048 .i8)
    (va : Vec F S3x2560 .f32) (qm qv : Vec F S256 .f32) (b : Fin 3) : Ins F where
  qm := entry qm
  qv := entry qv
  dm := mids (entry qm)
  dv := mids (entry qv)
  w r j := w (ix3 b (Fin.ofNat 640 r) (Fin.ofNat 8192 j))
  g r j := g (ix3 b (Fin.ofNat 640 r) (Fin.ofNat 8192 j))
  mc r j := mc (ix3 b (Fin.ofNat 2560 r) (Fin.ofNat 2048 j))
  vc r j := vc (ix3 b (Fin.ofNat 2560 r) (Fin.ofNat 2048 j))
  ma r q := ma (ix2 b (Fin.ofNat 2560 (4 * r + q)))
  va r q := va (ix2 b (Fin.ofNat 2560 (4 * r + q)))

variable (m : (ℓ : Loc nD τ sig) → Buf (Elt F) ℓ)

/-! ### What the host operations hand the kernel -/

/-- A table reshaped to two rows of 128, by the entry's number. -/
theorem tab_reshape (T : Vec F S256 .f32) (h : S256.ShapeCasts S2x128) (n : ℕ) (hn : n < 256) :
    tab (shapeCast S2x128 T h) n = entry T n :=
  shapeCast_apply T h _ _ (by
    rw [Shape.rowMajor_val_one, Shape.rowMajor_val_two]
    show n % 256 = (n / 128) % 2 * 128 + n % 128
    omega)

theorem mids_host (T : Vec F S256 .f32) (n : ℕ) (hn : n < 256) :
    entry (pad S256 ![0] ![1] ![0] (mulf (broadcastInDim S255 ![] bcast_S_S255 (constant S_ .f32 0x3F000000#32))
        (addf (extractStridedSlice S255 ![0] T slices_S256_S255_0) (extractStridedSlice S255 ![1] T slices_S256_S255_1)))
      (constant S_ .f32 0x7F800000#32) pads_S255_S256_010 h_S_) n = mids (entry T) n := by
  have e : n % 256 = n := Nat.mod_eq_of_lt hn
  by_cases h : n < 255
  · refine (pad_apply_of_inside _ _ _ _ _ _ _ _ (ix1 (⟨n, h⟩ : Fin 255)) (fun a => by
      obtain rfl : a = 0 := Subsingleton.elim _ _
      show n % 256 = 0 + n * (0 + 1); omega)).trans ?_
    unfold mids
    rw [if_pos h]
    refine congrArg₂ FloatOps.mulf rfl (congrArg₂ FloatOps.addf ?_ ?_)
    · exact extractStridedSlice_apply _ _ _ _ _ fun a => by
        obtain rfl : a = 0 := Subsingleton.elim _ _
        show n % 256 = 0 + n; omega
    · exact extractStridedSlice_apply _ _ _ _ _ fun a => by
        obtain rfl : a = 0 := Subsingleton.elim _ _
        show (n + 1) % 256 = 1 + n; omega
  · refine (pad_apply_of_not_inside _ _ _ _ _ _ _ _ (0 : Fin 1) (fun hin => ?_)).trans ?_
    · have h2 : (n % 256 - 0) / (0 + 1) < 255 := hin.2.2
      rw [e] at h2; simp at h2; exact h h2
    · unfold mids; rw [if_neg h]; rfl

theorem V_main_v0 (c : Dev nD) : (V m c main_v0 : Vec F S2x128 .f32) = shapeCast S2x128 (m ((c : Thread nD τ).loc main_arg6)) shapeCasts_S256_S2x128 := by
  show StableHlo.after _ _ (Proc.devRef .tc main_v0) = _
  simp only [List.flatten_cons, List.flatten_nil, List.append_nil, List.cons_append, List.nil_append]
  after_results_simp <;> rfl

theorem V_main_v1 (c : Dev nD) : (V m c main_v1 : Vec F S2x128 .f32) = shapeCast S2x128 (m ((c : Thread nD τ).loc main_arg7)) shapeCasts_S256_S2x128 := by
  show StableHlo.after _ _ (Proc.devRef .tc main_v1) = _
  simp only [List.flatten_cons, List.flatten_nil, List.append_nil, List.cons_append, List.nil_append]
  after_results_simp <;> rfl

theorem V_main_v16 (c : Dev nD) : (V m c main_v16 : Vec F S3x640x4 .f32) = shapeCast S3x640x4 (m ((c : Thread nD τ).loc main_arg3)) shapeCasts_S3x2560_S3x640x4 := by
  show StableHlo.after _ _ (Proc.devRef .tc main_v16) = _
  simp only [List.flatten_cons, List.flatten_nil, List.append_nil, List.cons_append, List.nil_append]
  after_results_simp <;> rfl

theorem V_main_v17 (c : Dev nD) : (V m c main_v17 : Vec F S3x640x4 .f32) = shapeCast S3x640x4 (m ((c : Thread nD τ).loc main_arg5)) shapeCasts_S3x2560_S3x640x4 := by
  show StableHlo.after _ _ (Proc.devRef .tc main_v17) = _
  simp only [List.flatten_cons, List.flatten_nil, List.append_nil, List.cons_append, List.nil_append]
  after_results_simp <;> rfl

theorem V_main_v8 (c : Dev nD) : (V m c main_v8 : Vec F S2x128 .f32) = shapeCast S2x128
      (pad S256 ![0] ![1] ![0] (mulf (broadcastInDim S255 ![] bcast_S_S255 (constant S_ .f32 0x3F000000#32))
        (addf (extractStridedSlice S255 ![0] (m ((c : Thread nD τ).loc main_arg6)) slices_S256_S255_0) (extractStridedSlice S255 ![1] (m ((c : Thread nD τ).loc main_arg6)) slices_S256_S255_1)))
      (constant S_ .f32 0x7F800000#32) pads_S255_S256_010 h_S_) shapeCasts_S256_S2x128 := by
  show StableHlo.after _ _ (Proc.devRef .tc main_v8) = _
  simp only [List.flatten_cons, List.flatten_nil, List.append_nil, List.cons_append, List.nil_append, StableHlo.TRef.binary, StableHlo.TRef.unary,
    StableHlo.TRef.toBuf, StableHlo.TRef.ofBuf, cast_eq]
  after_results_simp <;> rfl

theorem V_main_v15 (c : Dev nD) : (V m c main_v15 : Vec F S2x128 .f32) = shapeCast S2x128
      (pad S256 ![0] ![1] ![0] (mulf (broadcastInDim S255 ![] bcast_S_S255 (constant S_ .f32 0x3F000000#32))
        (addf (extractStridedSlice S255 ![0] (m ((c : Thread nD τ).loc main_arg7)) slices_S256_S255_0) (extractStridedSlice S255 ![1] (m ((c : Thread nD τ).loc main_arg7)) slices_S256_S255_1)))
      (constant S_ .f32 0x7F800000#32) pads_S255_S256_010 h_S_) shapeCasts_S256_S2x128 := by
  show StableHlo.after _ _ (Proc.devRef .tc main_v15) = _
  simp only [List.flatten_cons, List.flatten_nil, List.append_nil, List.cons_append, List.nil_append, StableHlo.TRef.binary, StableHlo.TRef.unary,
    StableHlo.TRef.toBuf, StableHlo.TRef.ofBuf, cast_eq]
  after_results_simp <;> rfl

/-! ### The blocks of the operands -/

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![t.val / 20, t.val % 20, 0] := by decide +kernel
theorem index_5 : ∀ t : Fin cfg0.N, win0_5.index t = ![t.val / 20, t.val % 20, 0] := by decide +kernel
theorem index_6 : ∀ t : Fin cfg0.N, win0_6.index t = ![t.val / 20, t.val % 20, 0] := by decide +kernel
theorem index_7 : ∀ t : Fin cfg0.N, win0_7.index t = ![t.val / 20, t.val % 20, 0] := by decide +kernel
theorem index_8 : ∀ t : Fin cfg0.N, win0_8.index t = ![t.val / 20, t.val % 20, 0] := by decide +kernel
theorem index_9 : ∀ t : Fin cfg0.N, win0_9.index t = ![t.val / 20, t.val % 20, 0] := by decide +kernel
theorem index_10 : ∀ t : Fin cfg0.N, win0_10.index t = ![t.val / 20, t.val % 20, 0] := by decide +kernel
theorem index_11 : ∀ t : Fin cfg0.N, win0_11.index t = ![t.val / 20, t.val % 20, 0] := by decide +kernel
theorem index_12 : ∀ t : Fin cfg0.N, win0_12.index t = ![t.val / 20, t.val % 20, 0] := by decide +kernel
theorem index_13 : ∀ t : Fin cfg0.N, win0_13.index t = ![t.val / 20, t.val % 20, 0] := by decide +kernel
theorem index_14 : ∀ t : Fin cfg0.N, win0_14.index t = ![t.val / 20, t.val % 20, 0] := by decide +kernel

/-- Grid point `t` is block `t % 20` of batch `t / 20`. -/
theorem t_lt (t : Fin cfg0.N) : t.val < 60 := t.isLt.trans_le (show cfg0.N ≤ 60 from N_0.le)

/-- The batch of grid point `t`. -/
def bat (t : Fin cfg0.N) : Fin 3 := ⟨t.val / 20, by have := t_lt t; omega⟩

theorem iblk_0 (c : Dev nD) (t : Fin cfg0.N) : (iblk m c 0 t : Vec F S2x128 .f32) = V m c main_v0 := by
  funext y
  unfold iblk
  rw [View.read_apply]
  show V m c main_v0 _ = _
  congr 1
  funext a
  apply Fin.ext
  fin_cases a
  · show win0_0.index t 0 * 2 + 1 * (y 0).val = (y 0).val; rw [index_0]; show 0 * 2 + 1 * (y 0).val = _; omega
  · show win0_0.index t 1 * 128 + 1 * (y 1).val = (y 1).val; rw [index_0]; show 0 * 128 + 1 * (y 1).val = _; omega

theorem iblk_1 (c : Dev nD) (t : Fin cfg0.N) : (iblk m c 1 t : Vec F S2x128 .f32) = V m c main_v1 := by
  funext y
  unfold iblk
  rw [View.read_apply]
  show V m c main_v1 _ = _
  congr 1
  funext a
  apply Fin.ext
  fin_cases a
  · show win0_1.index t 0 * 2 + 1 * (y 0).val = (y 0).val; rw [index_1]; show 0 * 2 + 1 * (y 0).val = _; omega
  · show win0_1.index t 1 * 128 + 1 * (y 1).val = (y 1).val; rw [index_1]; show 0 * 128 + 1 * (y 1).val = _; omega

theorem iblk_2 (c : Dev nD) (t : Fin cfg0.N) : (iblk m c 2 t : Vec F S2x128 .f32) = V m c main_v8 := by
  funext y
  unfold iblk
  rw [View.read_apply]
  show V m c main_v8 _ = _
  congr 1
  funext a
  apply Fin.ext
  fin_cases a
  · show win0_2.index t 0 * 2 + 1 * (y 0).val = (y 0).val; rw [index_2]; show 0 * 2 + 1 * (y 0).val = _; omega
  · show win0_2.index t 1 * 128 + 1 * (y 1).val = (y 1).val; rw [index_2]; show 0 * 128 + 1 * (y 1).val = _; omega

theorem iblk_3 (c : Dev nD) (t : Fin cfg0.N) : (iblk m c 3 t : Vec F S2x128 .f32) = V m c main_v15 := by
  funext y
  unfold iblk
  rw [View.read_apply]
  show V m c main_v15 _ = _
  congr 1
  funext a
  apply Fin.ext
  fin_cases a
  · show win0_3.index t 0 * 2 + 1 * (y 0).val = (y 0).val; rw [index_3]; show 0 * 2 + 1 * (y 0).val = _; omega
  · show win0_3.index t 1 * 128 + 1 * (y 1).val = (y 1).val; rw [index_3]; show 0 * 128 + 1 * (y 1).val = _; omega

theorem iblk_4 (c : Dev nD) (t : Fin cfg0.N) (r : Fin 32) (j : Fin 8192) :
    (iblk m c 4 t : Vec F S1x32x8192 .bf16) (ix3 (0 : Fin 1) r j) = V m c main_arg0 (ix3 (bat t) (Fin.ofNat 640 (32 * (t.val % 20) + r.val)) j) := by
  unfold iblk
  rw [View.read_apply]
  show V m c main_arg0 _ = _
  congr 1
  funext a
  apply Fin.ext
  fin_cases a
  · show win0_4.index t 0 * 1 + 1 * 0 = t.val / 20; rw [index_4]; show t.val / 20 * 1 + 1 * 0 = _; omega
  · show win0_4.index t 1 * 32 + 1 * r.val = (32 * (t.val % 20) + r.val) % 640
    rw [index_4]; show t.val % 20 * 32 + 1 * r.val = _; have := r.isLt; omega
  · show win0_4.index t 2 * 8192 + 1 * j.val = j.val; rw [index_4]; show 0 * 8192 + 1 * j.val = _; omega

theorem iblk_5 (c : Dev nD) (t : Fin cfg0.N) (r : Fin 32) (j : Fin 8192) :
    (iblk m c 5 t : Vec F S1x32x8192 .bf16) (ix3 (0 : Fin 1) r j) = V m c main_arg1 (ix3 (bat t) (Fin.ofNat 640 (32 * (t.val % 20) + r.val)) j) := by
  unfold iblk
  rw [View.read_apply]
  show V m c main_arg1 _ = _
  congr 1
  funext a
  apply Fin.ext
  fin_cases a
  · show win0_5.index t 0 * 1 + 1 * 0 = t.val / 20; rw [index_5]; show t.val / 20 * 1 + 1 * 0 = _; omega
  · show win0_5.index t 1 * 32 + 1 * r.val = (32 * (t.val % 20) + r.val) % 640
    rw [index_5]; show t.val % 20 * 32 + 1 * r.val = _; have := r.isLt; omega
  · show win0_5.index t 2 * 8192 + 1 * j.val = j.val; rw [index_5]; show 0 * 8192 + 1 * j.val = _; omega

theorem iblk_6 (c : Dev nD) (t : Fin cfg0.N) (r : Fin 128) (j : Fin 2048) :
    (iblk m c 6 t : Vec F S1x128x2048 .i8) (ix3 (0 : Fin 1) r j) = V m c main_arg2 (ix3 (bat t) (Fin.ofNat 2560 (128 * (t.val % 20) + r.val)) j) := by
  unfold iblk
  rw [View.read_apply]
  show V m c main_arg2 _ = _
  congr 1
  funext a
  apply Fin.ext
  fin_cases a
  · show win0_6.index t 0 * 1 + 1 * 0 = t.val / 20; rw [index_6]; show t.val / 20 * 1 + 1 * 0 = _; omega
  · show win0_6.index t 1 * 128 + 1 * r.val = (128 * (t.val % 20) + r.val) % 2560
    rw [index_6]; show t.val % 20 * 128 + 1 * r.val = _; have := r.isLt; omega
  · show win0_6.index t 2 * 2048 + 1 * j.val = j.val; rw [index_6]; show 0 * 2048 + 1 * j.val = _; omega

theorem iblk_7 (c : Dev nD) (t : Fin cfg0.N) (r : Fin 128) (j : Fin 2048) :
    (iblk m c 7 t : Vec F S1x128x2048 .i8) (ix3 (0 : Fin 1) r j) = V m c main_arg4 (ix3 (bat t) (Fin.ofNat 2560 (128 * (t.val % 20) + r.val)) j) := by
  unfold iblk
  rw [View.read_apply]
  show V m c main_arg4 _ = _
  congr 1
  funext a
  apply Fin.ext
  fin_cases a
  · show win0_7.index t 0 * 1 + 1 * 0 = t.val / 20; rw [index_7]; show t.val / 20 * 1 + 1 * 0 = _; omega
  · show win0_7.index t 1 * 128 + 1 * r.val = (128 * (t.val % 20) + r.val) % 2560
    rw [index_7]; show t.val % 20 * 128 + 1 * r.val = _; have := r.isLt; omega
  · show win0_7.index t 2 * 2048 + 1 * j.val = j.val; rw [index_7]; show 0 * 2048 + 1 * j.val = _; omega

theorem iblk_8 (c : Dev nD) (t : Fin cfg0.N) (r : Fin 32) (j : Fin 4) :
    (iblk m c 8 t : Vec F S1x32x4 .f32) (ix3 (0 : Fin 1) r j) = V m c main_v16 (ix3 (bat t) (Fin.ofNat 640 (32 * (t.val % 20) + r.val)) j) := by
  unfold iblk
  rw [View.read_apply]
  show V m c main_v16 _ = _
  congr 1
  funext a
  apply Fin.ext
  fin_cases a
  · show win0_8.index t 0 * 1 + 1 * 0 = t.val / 20; rw [index_8]; show t.val / 20 * 1 + 1 * 0 = _; omega
  · show win0_8.index t 1 * 32 + 1 * r.val = (32 * (t.val % 20) + r.val) % 640
    rw [index_8]; show t.val % 20 * 32 + 1 * r.val = _; have := r.isLt; omega
  · show win0_8.index t 2 * 4 + 1 * j.val = j.val; rw [index_8]; show 0 * 4 + 1 * j.val = _; omega

theorem iblk_9 (c : Dev nD) (t : Fin cfg0.N) (r : Fin 32) (j : Fin 4) :
    (iblk m c 9 t : Vec F S1x32x4 .f32) (ix3 (0 : Fin 1) r j) = V m c main_v17 (ix3 (bat t) (Fin.ofNat 640 (32 * (t.val % 20) + r.val)) j) := by
  unfold iblk
  rw [View.read_apply]
  show V m c main_v17 _ = _
  congr 1
  funext a
  apply Fin.ext
  fin_cases a
  · show win0_9.index t 0 * 1 + 1 * 0 = t.val / 20; rw [index_9]; show t.val / 20 * 1 + 1 * 0 = _; omega
  · show win0_9.index t 1 * 32 + 1 * r.val = (32 * (t.val % 20) + r.val) % 640
    rw [index_9]; show t.val % 20 * 32 + 1 * r.val = _; have := r.isLt; omega
  · show win0_9.index t 2 * 4 + 1 * j.val = j.val; rw [index_9]; show 0 * 4 + 1 * j.val = _; omega

end Cert.KernelIdeal.Hand

end
-- ==== Proof.R.Elems.lean ====
module

public import proofs.«01_k».proof.Proof.R.Ref
public import proofs.«01_k».proof.Proof.KI.Whole

/-! The reference's moments and weights element by element: at block `R` and place `l` they are the step of the optimiser at row
`R / 4`, quarter `R % 4` and column `l`. -/

@[expose] public section

set_option maxRecDepth 16384

noncomputable section

namespace Cert.ReferenceIdeal.Hand

open Cert.ReferenceIdeal Cert.ReferenceIdeal.Gen Idealize.ShloMosaic Idealize.ShloMosaic.ValueIdx Idealize.ShloMosaic.TcCoe

variable {F : FTy → Type} [FloatOps F]

/-- A value spread along its block is the block's value. -/
theorem spread_apply {α : Type} (x : S3x2560.Idx → α) (b : Fin 3) (R : Fin 2560) (l : Fin 2048) :
    spread x (ix3 b R l) = x (ix2 b R) :=
  (broadcastInDim_apply _ _ _ _ (ix3 b R (0 : Fin 1)) (fun a => by fin_cases a <;> rfl)).trans
    (broadcastInDim_apply _ _ _ _ (ix2 b R) (fun a => by fin_cases a <;> rfl))

/-- The table's entry at a code. -/
theorem gather_apply (q : FVec F S256 .f32) (idx : IVec S3x2560x2048x1 32) (b : Fin 3) (R : Fin 2560) (l : Fin 2048) :
    Host.gather gather_S256_S3x2560x2048x1_S3x2560x2048_n_0_n_n_0_3_1 q idx (ix3 b R l)
      = q (ix1 (⟨min (idx (ix4 b R l (0 : Fin 1))).toInt.toNat (256 - 1), by omega⟩ : Fin 256)) := by
  unfold Host.gather
  congr 1
  funext a
  obtain rfl : a = 0 := Subsingleton.elim _ _
  refine Fin.ext ?_
  show gather_S256_S3x2560x2048x1_S3x2560x2048_n_0_n_n_0_3_1.start (ix3 b R l) idx 0 + gather_S256_S3x2560x2048x1_S3x2560x2048_n_0_n_n_0_3_1.batchCoord (ix3 b R l) 0
    + gather_S256_S3x2560x2048x1_S3x2560x2048_n_0_n_n_0_3_1.offCoord (ix3 b R l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S256_S3x2560x2048x1_S3x2560x2048_n_0_n_n_0_3_1.startIndexMap from List.mem_singleton.mpr rfl)]
  have hsi : gather_S256_S3x2560x2048x1_S3x2560x2048_n_0_n_n_0_3_1.siIdx (ix3 b R l) ⟨List.idxOf (0 : Fin 1) gather_S256_S3x2560x2048x1_S3x2560x2048_n_0_n_n_0_3_1.startIndexMap,
      List.idxOf_lt_length_iff.2 (List.mem_singleton.mpr rfl)⟩ = ix4 b R l (0 : Fin 1) := by
    funext d; refine Fin.ext ?_
    match d with
    | ⟨0, _⟩ => rfl
    | ⟨1, _⟩ => rfl
    | ⟨2, _⟩ => rfl
    | ⟨3, _⟩ => rfl
  rw [hsi]
  rfl

theorem code_clamp (x : BitVec 8) : min (x.setWidth 32).toInt.toNat (256 - 1) = x.toNat % 256 := by
  have h : x.toNat < 256 := x.isLt
  rw [BitVec.toInt_setWidth, Int.bmod_eq_of_le (by omega) (by omega)]
  omega

theorem decoded_apply (mc : Vec F S3x2560x2048 .i8) (ma : FVec F S3x2560 .f32) (q : FVec F S256 .f32) (b : Fin 3) (R : Fin 2560) (l : Fin 2048) :
    decoded mc ma q (ix3 b R l)
      = FloatOps.mulf (KernelIdeal.Hand.entry (F := F) q (mc (ix3 b R l) : BitVec 8).toNat) (ma (ix2 b R)) := by
  refine congrArg₂ FloatOps.mulf ((gather_apply q _ b R l).trans ?_) (spread_apply ma b R l)
  refine congrArg q (congrArg ix1 (Fin.ext ?_))
  have e : (broadcastInDim S3x2560x2048x1 ![0, 1, 2] bcast_S3x2560x2048_S3x2560x2048x1_0_1_2 (extui 32 (mc : IVec S3x2560x2048 8) natLt_8_32)) (ix4 b R l (0 : Fin 1))
      = (mc (ix3 b R l) : BitVec 8).setWidth 32 :=
    broadcastInDim_apply _ _ _ _ (ix3 b R l) (fun a => by fin_cases a <;> rfl)
  show min _ (256 - 1) = (mc (ix3 b R l) : BitVec 8).toNat % 256
  rw [e]
  exact code_clamp _

/-- The weights and gradients, block by block. -/
theorem wide_apply (w : FVec F S3x640x8192 .bf16) (b : Fin 3) (R : Fin 2560) (l : Fin 2048) :
    wide w (ix3 b R l) = KernelIdeal.Hand.up (w (ix3 b (Fin.ofNat 640 (R.val / 4)) (Fin.ofNat 8192 (2048 * (R.val % 4) + l.val)))) :=
  congrArg (KernelIdeal.Hand.up (F := F)) (shapeCast_apply w _ _ _ (by
    have := R.isLt
    have := l.isLt
    rw [Shape.rowMajor_val_three, Shape.rowMajor_val_three]
    show (b.val * 640 + R.val / 4 % 640) * 8192 + (2048 * (R.val % 4) + l.val) % 8192 = (b.val * 2560 + R.val) * 2048 + l.val
    omega))

section Cells

variable (w g : FVec F S3x640x8192 .bf16) (mc : Vec F S3x2560x2048 .i8) (ma : FVec F S3x2560 .f32) (vc : Vec F S3x2560x2048 .i8)
  (va : FVec F S3x2560 .f32) (qm qv : FVec F S256 .f32) (b : Fin 3) (R : Fin 2560) (l : Fin 2048)

theorem block_row : (Fin.ofNat 2560 (4 * (R.val / 4) + R.val % 4) : Fin 2560) = R :=
  Fin.ext (by have := R.isLt; show (4 * (R.val / 4) + R.val % 4) % 2560 = R.val; omega)

theorem block_col : (Fin.ofNat 2048 l.val : Fin 2048) = l := Fin.ext (Nat.mod_eq_of_lt l.isLt)

/-- The new first moment. -/
theorem mRef_apply : mRef g mc ma qm (ix3 b R l)
    = KernelIdeal.Hand.mCell (KernelIdeal.Hand.whole w g mc ma vc va qm qv b) (R.val / 4) (R.val % 4) l.val := by
  refine Eq.trans (b := KernelIdeal.Hand.mStep (FloatOps.mulf (KernelIdeal.Hand.entry (F := F) qm (mc (ix3 b R l) : BitVec 8).toNat) (ma (ix2 b R)))
    (g (ix3 b (Fin.ofNat 640 (R.val / 4)) (Fin.ofNat 8192 (2048 * (R.val % 4) + l.val))))) ?_ ?_
  · exact congrArg₂ FloatOps.addf (congrArg₂ FloatOps.mulf rfl (decoded_apply mc ma qm b R l)) (congrArg₂ FloatOps.mulf rfl (wide_apply g b R l))
  · unfold KernelIdeal.Hand.mCell KernelIdeal.Hand.whole
    simp only [block_row, block_col]

/-- The new second moment. -/
theorem vRef_apply : vRef g vc va qv (ix3 b R l)
    = KernelIdeal.Hand.vCell (KernelIdeal.Hand.whole w g mc ma vc va qm qv b) (R.val / 4) (R.val % 4) l.val := by
  refine Eq.trans (b := KernelIdeal.Hand.vStep (FloatOps.mulf (KernelIdeal.Hand.entry (F := F) qv (vc (ix3 b R l) : BitVec 8).toNat) (va (ix2 b R)))
    (g (ix3 b (Fin.ofNat 640 (R.val / 4)) (Fin.ofNat 8192 (2048 * (R.val % 4) + l.val))))) ?_ ?_
  · exact congrArg₂ FloatOps.addf (congrArg₂ FloatOps.mulf rfl (decoded_apply vc va qv b R l))
      (congrArg₂ FloatOps.mulf (congrArg₂ FloatOps.mulf rfl (wide_apply g b R l)) (wide_apply g b R l))
  · unfold KernelIdeal.Hand.vCell KernelIdeal.Hand.whole
    simp only [block_row, block_col]

end Cells

/-- The new weight at the extended reals, where the host's division and square root are the kernel's. -/
theorem wRef_apply (w g : FVec Ideal S3x640x8192 .bf16) (mc : Vec Ideal S3x2560x2048 .i8) (ma : FVec Ideal S3x2560 .f32) (vc : Vec Ideal S3x2560x2048 .i8)
    (va : FVec Ideal S3x2560 .f32) (qm qv : FVec Ideal S256 .f32) (b : Fin 3) (R : Fin 2560) (l : Fin 2048) :
    wRef w (mRef g mc ma qm) (vRef g vc va qv) (ix3 b R l)
      = KernelIdeal.Hand.wCell (KernelIdeal.Hand.whole w g mc ma vc va qm qv b) (R.val / 4) (R.val % 4) l.val := by
  have hm := mRef_apply w g mc ma vc va qm qv b R l
  have hv := vRef_apply w g mc ma vc va qm qv b R l
  have hw := wide_apply w b R l
  unfold KernelIdeal.Hand.wCell
  rw [← hm, ← hv]
  refine Eq.trans (b := KernelIdeal.Hand.wStep (mRef g mc ma qm (ix3 b R l)) (vRef g vc va qv (ix3 b R l))
    (w (ix3 b (Fin.ofNat 640 (R.val / 4)) (Fin.ofNat 8192 (2048 * (R.val % 4) + l.val))))) ?_ rfl
  exact congrArg₂ (fun x y : EReal => x - y) (congrArg₂ (fun x y : EReal => x * y) hw rfl) rfl

end Cert.ReferenceIdeal.Hand

end
-- ==== Proof.KI.Exact.lean ====
module

public import proofs.«01_k».proof.Proof.KI.Whole
public import Idealize.ShloMosaic.PureOps.Ideal.Laws
public import Idealize.ShloMosaic.Lib.IdealHost

/-! The kernel's scales and codes over the extended reals: a scale is the least bound of the absolute values of its block, the
product with the reciprocal of a scale is the quotient, and the eight steps of the search count the midpoints below a value. -/

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe

/-- The absolute value. -/
def absE (x : EReal) : EReal := max x (-x)

theorem absE_nonneg (x : EReal) : 0 ≤ absE x := by
  rcases le_total 0 x with h | h
  · exact h.trans (le_max_left _ _)
  · exact (EReal.neg_nonneg.mpr h).trans (le_max_right _ _)

theorem eq_zero_of_absE_le {x : EReal} (h : absE x ≤ 0) : x = 0 :=
  le_antisymm ((le_max_left _ _).trans h) (EReal.neg_le_zero.mp ((le_max_right _ _).trans h))

/-! ### The scale -/

theorem runMax_le (f : ℕ → Ideal .f32) (n : ℕ) (z : EReal) :
    (runMax f n : EReal) ≤ z ↔ 0 ≤ z ∧ ∀ t, t < n → absE (f t) ≤ z := by
  induction n with
  | zero =>
    have e : (runMax f 0 : EReal) = 0 := Ideal.ofBits_zero_f32
    rw [e]
    exact ⟨fun h => ⟨h, fun t ht => absurd ht (Nat.not_lt_zero t)⟩, fun h => h.1⟩
  | succ n ih =>
    have e : (runMax f (n + 1) : EReal) = max (runMax f n : EReal) (absE (f n)) := rfl
    rw [e, max_le_iff, ih]
    constructor
    · rintro ⟨⟨h0, h1⟩, h2⟩
      refine ⟨h0, fun t ht => ?_⟩
      rcases Nat.lt_succ_iff_lt_or_eq.mp ht with h | rfl
      · exact h1 t h
      · exact h2
    · exact fun h => ⟨⟨h.1, fun t ht => h.2 t (Nat.lt_succ_of_lt ht)⟩, h.2 n (Nat.lt_succ_self n)⟩

theorem neg_inf : Ideal.ofBits .f32 0xFF800000#32 = ⊥ := by simp [Ideal.ofBits, Ideal.ieee]

/-- A row's maximum over the 128 lanes. -/
theorem absTile_le (T : FVec Ideal S16x128 .f32) (a : Fin 16) (z : EReal) :
    (absTile T (ix2 a (0 : Fin 1)) : EReal) ≤ z ↔ ∀ l : Fin 128, (T (ix2 a l) : EReal) ≤ z := by
  have e : absTile T (ix2 a (0 : Fin 1)) = (Finset.univ : Finset (Fin 128)).fold max (Ideal.ofBits .f32 0xFF800000#32) (fun l => (T (ix2 a l) : EReal)) := by
    unfold absTile
    refine (shapeCast_apply _ _ _ (ix1 a) ?_).trans ((Ideal.multiReduction_maximumf_single T _ _ _ _ _).trans ?_)
    · rw [Shape.rowMajor_val_one, Shape.rowMajor_val_two]
      show a.val = a.val * 1 + 0
      omega
    · refine Finset.fold_congr fun l _ => congrArg T ?_
      funext d; fin_cases d <;> rfl
  rw [e, Finset.fold_max_le, neg_inf]
  exact ⟨fun h l => h.2 l (Finset.mem_univ l), fun h => ⟨bot_le, fun l _ => h l⟩⟩

/-- The kernel's scale is the least bound of the absolute values of its block that is not negative. -/
theorem amax_le (f : ℕ → ℕ → ℕ → Ideal .f32) (r q : ℕ) (z : EReal) :
    (amax f r q : EReal) ≤ z ↔ 0 ≤ z ∧ ∀ l, l < 2048 → absE (f r q l) ≤ z := by
  have er : 16 * (r / 16) + r % 16 = r := Nat.div_add_mod r 16
  unfold amax
  rw [absTile_le]
  constructor
  · intro h
    have h' : ∀ a : Fin 128, 0 ≤ z ∧ ∀ t, t < 16 → absE (f (16 * (r / 16) + r % 16) q (128 * t + a.val)) ≤ z :=
      fun a => (runMax_le (fun t => f (16 * (r / 16) + r % 16) q (128 * t + a.val)) 16 z).mp (h a)
    refine ⟨(h' 0).1, fun l hl => ?_⟩
    have := (h' ⟨l % 128, Nat.mod_lt _ (by decide)⟩).2 (l / 128) (by omega)
    rwa [er, show 128 * (l / 128) + l % 128 = l from Nat.div_add_mod l 128] at this
  · rintro ⟨h0, h⟩ a
    refine (runMax_le (fun t => f (16 * (r / 16) + r % 16) q (128 * t + a.val)) 16 z).mpr ⟨h0, fun t ht => ?_⟩
    rw [er]
    exact h _ (by have := a.isLt; omega)

theorem absE_le_amax (f : ℕ → ℕ → ℕ → Ideal .f32) (r q l : ℕ) (hl : l < 2048) : absE (f r q l) ≤ amax f r q :=
  ((amax_le f r q _).mp le_rfl).2 l hl

/-! ### The quotient -/

theorem cmpf_ogt (x y : EReal) : (FloatOps.cmpf (F := Ideal) (φ := .f32) .ogt x y = 1#1) ↔ y < x := by
  show BitVec.ofBool (decide (y < x)) = 1#1 ↔ y < x
  by_cases h : y < x <;> simp [h]

theorem cmpf_olt (x y : EReal) : (FloatOps.cmpf (F := Ideal) (φ := .f32) .olt x y = 1#1) ↔ x < y := by
  show BitVec.ofBool (decide (x < y)) = 1#1 ↔ x < y
  by_cases h : x < y <;> simp [h]

theorem cmpf_ole (x y : EReal) : (FloatOps.cmpf (F := Ideal) (φ := .f32) .ole x y = 1#1) ↔ x ≤ y := by
  show BitVec.ofBool (decide (x ≤ y)) = 1#1 ↔ x ≤ y
  by_cases h : x ≤ y <;> simp [h]

/-- A value over its scale, zero where the scale is not positive. -/
def ratio (x a : EReal) : EReal := if 0 < a then Ideal.div x a else 0

/-- The product with the reciprocal is the quotient, for a value whose absolute value the scale bounds. -/
theorem mul_inv_eq_ratio (x a : EReal) (h : absE x ≤ a) :
    FloatOps.mulf (F := Ideal) (φ := .f32) x (inv (F := Ideal) a) = ratio x a := by
  have e : inv (F := Ideal) a = Ideal.div 1 (if 0 < a then a else 1) := by
    show Ideal.div (Ideal.ofBits .f32 0x3F800000#32) (Scalar.select (FloatOps.cmpf (F := Ideal) (φ := .f32) .ogt a (Ideal.ofBits .f32 0x00000000#32)) a (Ideal.ofBits .f32 0x3F800000#32)) = _
    rw [Ideal.ofBits_one_f32, Ideal.ofBits_zero_f32]
    exact congrArg (Ideal.div 1) (if_congr (cmpf_ogt a 0) rfl rfl)
  rw [e]
  show x * _ = _
  unfold ratio
  by_cases ha : 0 < a
  · rw [if_pos ha, if_pos ha]
    unfold Ideal.div
    rw [if_neg ha.ne', if_neg ha.ne', one_mul]
  · rw [if_neg ha, if_neg ha, eq_zero_of_absE_le (h.trans (not_lt.mp ha)), zero_mul]

/-! ### The search -/

/-- A property of numbers that holds below whatever it holds at holds exactly below some bound. -/
theorem exists_bound (p : ℕ → Prop) (N : ℕ) (hp : ∀ a b, a ≤ b → b < N → p b → p a) : ∃ k, k ≤ N ∧ ∀ n, n < N → (p n ↔ n < k) := by
  induction N with
  | zero => exact ⟨0, le_rfl, fun n hn => absurd hn (Nat.not_lt_zero n)⟩
  | succ N ih =>
    by_cases h : p N
    · exact ⟨N + 1, le_rfl, fun n hn => ⟨fun _ => hn, fun _ => hp n N (Nat.lt_succ_iff.mp hn) (Nat.lt_succ_self N) h⟩⟩
    · obtain ⟨k, hk, hk'⟩ := ih fun a b hab hb => hp a b hab (Nat.lt_succ_of_lt hb)
      refine ⟨k, Nat.le_succ_of_le hk, fun n hn => ?_⟩
      rcases Nat.lt_succ_iff_lt_or_eq.mp hn with h' | rfl
      · exact hk' n h'
      · exact ⟨fun h' => absurd h' h, fun h' => absurd h' (not_lt.mpr hk)⟩

/-- The midpoints below `y` are those whose number is below `k`. -/
def Splits (T : ℕ → Ideal .f32) (y : EReal) (k : ℕ) : Prop := k ≤ 255 ∧ ∀ n, n < 255 → ((T n : EReal) < y ↔ n < k)

theorem step_within (T : ℕ → Ideal .f32) (y : EReal) (k s c : ℕ) (hk : Splits T y k) (hs : 0 < s)
    (h : c ≤ k ∧ k < c + (s + s) ∧ c + (s + s) ≤ 256) :
    step T y s c ≤ k ∧ k < step T y s c + s ∧ step T y s c + s ≤ 256 := by
  obtain ⟨h1, h2, h3⟩ := h
  have hc : (FloatOps.cmpf (F := Ideal) (φ := .f32) .olt (T (c + (s - 1))) y = 1#1) ↔ c + (s - 1) < k :=
    (cmpf_olt _ _).trans (hk.2 _ (by omega))
  unfold step
  by_cases hlt : c + (s - 1) < k
  · rw [if_pos (hc.mpr hlt)]; omega
  · rw [if_neg (fun h => hlt (hc.mp h))]; omega

/-- Eight steps find the bound. -/
theorem enc_eq (T : ℕ → Ideal .f32) (y : EReal) (k : ℕ) (hk : Splits T y k) : enc T y = k := by
  have h0 : (0 : ℕ) ≤ k ∧ k < 0 + (128 + 128) ∧ 0 + (128 + 128) ≤ 256 := ⟨Nat.zero_le k, by have := hk.1; omega, by omega⟩
  have h1 := step_within T y k 128 _ hk (by decide) h0
  have h2 := step_within T y k 64 _ hk (by decide) h1
  have h3 := step_within T y k 32 _ hk (by decide) h2
  have h4 := step_within T y k 16 _ hk (by decide) h3
  have h5 := step_within T y k 8 _ hk (by decide) h4
  have h6 := step_within T y k 4 _ hk (by decide) h5
  have h7 := step_within T y k 2 _ hk (by decide) h6
  have h8 := step_within T y k 1 _ hk (by decide) h7
  unfold enc
  omega

/-- The number of midpoints below `y`. -/
def below (T : ℕ → Ideal .f32) (y : EReal) : ℕ :=
  ((Finset.univ : Finset (Fin 255)).filter fun n => FloatOps.cmpf (F := Ideal) (φ := .f32) .olt (T n.val) y = 1#1).card

theorem below_eq (T : ℕ → Ideal .f32) (y : EReal) (k : ℕ) (hk : Splits T y k) : below T y = k := by
  unfold below
  rw [Finset.filter_congr (q := fun n : Fin 255 => n.val < k) (fun n _ => (cmpf_olt _ _).trans (hk.2 n.val n.isLt)), Fin.card_filter_val_lt]
  exact Nat.min_eq_right hk.1

/-- For midpoints in ascending order the search counts the midpoints below `y`. -/
theorem enc_eq_below (T : ℕ → Ideal .f32) (hT : ∀ a b, a ≤ b → b < 255 → (T a : EReal) ≤ T b) (y : EReal) : enc T y = below T y := by
  obtain ⟨k, h1, h2⟩ := exists_bound (fun n => (T n : EReal) < y) 255 fun a b hab hb h => (hT a b hab hb).trans_lt h
  rw [enc_eq T y k ⟨h1, h2⟩, below_eq T y k ⟨h1, h2⟩]

/-! ### The midpoints -/

theorem half_nonneg : (0 : EReal) ≤ Ideal.ofBits .f32 0x3F000000#32 := by
  have h : Ideal.ofBits .f32 0x3F000000#32 = (((1 : ℝ) / 2 : ℝ) : EReal) := by
    simp [Ideal.ofBits, Ideal.ieee, -EReal.coe_mul]; norm_num
  rw [h]
  exact_mod_cast (by norm_num : (0 : ℝ) ≤ 1 / 2)

/-- The midpoints of an ascending table ascend. -/
theorem mids_mono (T : ℕ → Ideal .f32) (hT : ∀ n, n < 255 → (T n : EReal) ≤ T (n + 1)) (a b : ℕ) (hab : a ≤ b) (hb : b < 255) :
    (mids T a : EReal) ≤ mids T b := by
  have hm : ∀ n m, n ≤ m → m < 256 → (T n : EReal) ≤ T m := by
    intro n m hnm
    induction m, hnm using Nat.le_induction with
    | base => exact fun _ => le_rfl
    | succ m hnm ih => exact fun h => (ih (by omega)).trans (hT m (by omega))
  unfold mids
  rw [if_pos hb, if_pos (by omega : a < 255)]
  show Ideal.ofBits .f32 0x3F000000#32 * ((T a : EReal) + T (a + 1)) ≤ Ideal.ofBits .f32 0x3F000000#32 * ((T b : EReal) + T (b + 1))
  exact mul_le_mul_of_nonneg_left (add_le_add (hm a b hab (by omega)) (hm (a + 1) (b + 1) (by omega) (by omega))) half_nonneg

end Cert.KernelIdeal.Hand

end
-- ==== Proof.R.Exact.lean ====
module

public import proofs.«01_k».proof.Proof.R.Elems
public import proofs.«01_k».proof.Proof.KI.Exact
public import Idealize.ShloMosaic.Lib.IndicatorCount

/-! The reference's scales, quotients, midpoints and codes over the extended reals, element by element. -/

@[expose] public section

set_option maxRecDepth 16384

noncomputable section

namespace Cert.ReferenceIdeal.Hand

open Cert.ReferenceIdeal Cert.ReferenceIdeal.Gen Idealize.ShloMosaic Idealize.ShloMosaic.ValueIdx Idealize.ShloMosaic.TcCoe
open Idealize.ShloMosaic.IndicatorCount
open Cert.KernelIdeal.Hand (absE amax amax_le absE_nonneg ratio below entry midOf mids neg_inf cmpf_ogt)

theorem reduces_block : S3x2560x2048.Reduces [2] S3x2560 := by decide

theorem reduces_mids : S3x2560x2048x255.Reduces [3] S3x2560x2048 := by decide

/-- The reference's scale is the least bound of the absolute values of its block. -/
theorem scaleRef_le (s : FVec Ideal S3x2560x2048 .f32) (b : Fin 3) (R : Fin 2560) (z : EReal) :
    (scaleRef s (ix2 b R) : EReal) ≤ z ↔ ∀ l : Fin 2048, absE (s (ix3 b R l)) ≤ z := by
  have e : scaleRef s (ix2 b R) = (Finset.univ : Finset (Fin 2048)).fold max (Ideal.ofBits .f32 0xFF800000#32) (fun l => absE (s (ix3 b R l))) := by
    refine (Host.reduce_eq_fold_single (FloatOps.maximumf (F := Ideal) (φ := .f32)) (Host.absf s) (constant S_ .f32 0xFF800000#32) _ reduces_block _ _).trans ?_
    refine Finset.fold_congr fun l _ => congrArg (Host.absf s) ?_
    funext d; fin_cases d <;> rfl
  rw [e, Finset.fold_max_le, neg_inf]
  exact ⟨fun h l => h.2 l (Finset.mem_univ l), fun h => ⟨bot_le, fun l _ => h l⟩⟩

/-- The two scales are one. -/
theorem scaleRef_eq_amax (s : FVec Ideal S3x2560x2048 .f32) (f : ℕ → ℕ → ℕ → Ideal .f32) (b : Fin 3) (R : Fin 2560) (r q : ℕ)
    (h : ∀ l : Fin 2048, s (ix3 b R l) = f r q l.val) : scaleRef s (ix2 b R) = amax f r q := by
  refine eq_of_forall_ge_iff (α := EReal) fun z => ?_
  rw [scaleRef_le, amax_le]
  constructor
  · intro hz
    exact ⟨(absE_nonneg _).trans (hz 0), fun l hl => by have := hz ⟨l, hl⟩; rwa [h ⟨l, hl⟩] at this⟩
  · rintro ⟨-, hz⟩ l
    rw [h l]
    exact hz l.val l.isLt

/-- The reference's quotient. -/
theorem yRef_apply (s : FVec Ideal S3x2560x2048 .f32) (a : FVec Ideal S3x2560 .f32) (b : Fin 3) (R : Fin 2560) (l : Fin 2048) :
    yRef s a (ix3 b R l) = ratio (s (ix3 b R l)) (a (ix2 b R)) := by
  have hl : live a (ix2 b R) = FloatOps.cmpf (F := Ideal) (φ := .f32) .ogt (a (ix2 b R)) (0 : EReal) :=
    congrArg (FloatOps.cmpf (F := Ideal) (φ := .f32) .ogt (a (ix2 b R))) Ideal.ofBits_zero_f32
  refine Eq.trans (b := Scalar.select (live a (ix2 b R)) (Ideal.div (s (ix3 b R l)) (Scalar.select (live a (ix2 b R)) (a (ix2 b R)) (Ideal.ofBits .f32 0x3F800000#32)))
    (Ideal.ofBits .f32 0x00000000#32)) ?_ ?_
  · exact congrArg₂ (fun c y => Scalar.select c (Ideal.div (s (ix3 b R l)) y) (Ideal.ofBits .f32 0x00000000#32)) (spread_apply (live a) b R l)
      (spread_apply _ b R l)
  · rw [hl, Ideal.ofBits_zero_f32]
    have hs : ∀ x y : EReal, Scalar.select (FloatOps.cmpf (F := Ideal) (φ := .f32) .ogt (a (ix2 b R)) (0 : EReal)) x y
        = if (0 : EReal) < a (ix2 b R) then x else y := fun x y => if_congr (cmpf_ogt _ _) rfl rfl
    rw [hs, hs]
    unfold ratio
    by_cases h : (0 : EReal) < a (ix2 b R)
    · rw [if_pos h, if_pos h, if_pos h]
    · rw [if_neg h, if_neg h]

/-- The reference's midpoints. -/
theorem midRef_apply (q : FVec Ideal S256 .f32) (n : Fin 255) : midRef q (ix1 n) = mids (entry (F := Ideal) q) n.val := by
  unfold mids
  rw [if_pos n.isLt]
  have hn := n.isLt
  refine congrArg₂ FloatOps.mulf rfl (congrArg₂ FloatOps.addf ?_ ?_)
  · exact extractStridedSlice_apply _ _ _ _ _ fun a => by
      obtain rfl : a = 0 := Subsingleton.elim _ _
      show n.val % 256 = 0 + n.val; omega
  · exact extractStridedSlice_apply _ _ _ _ _ fun a => by
      obtain rfl : a = 0 := Subsingleton.elim _ _
      show (n.val + 1) % 256 = 1 + n.val; omega

/-- One for each midpoint below a value, zero for the others. -/
def hits (y : FVec Ideal S3x2560x2048 .f32) (d : FVec Ideal S255 .f32) : IVec S3x2560x2048x255 32 :=
  extui 32 (cmpf .olt
      (broadcastInDim S3x2560x2048x255 ![0, 1, 2, 3] bcast_S1x1x1x255_S3x2560x2048x255_0_1_2_3 (broadcastInDim S1x1x1x255 ![3] bcast_S255_S1x1x1x255_3 d))
      (broadcastInDim S3x2560x2048x255 ![0, 1, 2, 3] bcast_S3x2560x2048x1_S3x2560x2048x255_0_1_2_3 (broadcastInDim S3x2560x2048x1 ![0, 1, 2] bcast_S3x2560x2048_S3x2560x2048x1_0_1_2 y))) natLt_1_32

theorem hits_apply (y : FVec Ideal S3x2560x2048 .f32) (q : FVec Ideal S256 .f32) (b : Fin 3) (R : Fin 2560) (l : Fin 2048) (k : Fin 255) :
    hits y (midRef q) (ix4 b R l k)
      = (FloatOps.cmpf (F := Ideal) (φ := .f32) .olt (mids (entry (F := Ideal) q) k.val) (y (ix3 b R l))).setWidth 32 := by
  unfold hits
  show (FloatOps.cmpf (F := Ideal) (φ := .f32) .olt _ _).setWidth 32 = _
  refine congrArg (BitVec.setWidth 32) (congrArg₂ (FloatOps.cmpf (F := Ideal) (φ := .f32) .olt) ?_ ?_)
  · exact (broadcastInDim_apply _ _ _ _ (ix4 (0 : Fin 1) (0 : Fin 1) (0 : Fin 1) k) (fun a => by fin_cases a <;> rfl)).trans
      ((broadcastInDim_apply _ _ _ _ (ix1 k) (fun a => by fin_cases a; rfl)).trans (midRef_apply q k))
  · exact (broadcastInDim_apply _ _ _ _ (ix4 b R l (0 : Fin 1)) (fun a => by fin_cases a <;> rfl)).trans
      (broadcastInDim_apply _ _ _ _ (ix3 b R l) (fun a => by fin_cases a <;> rfl))

theorem hits_sum (y : FVec Ideal S3x2560x2048 .f32) (q : FVec Ideal S256 .f32) (b : Fin 3) (R : Fin 2560) (l : Fin 2048) :
    Host.reduce IntOp.addi (hits y (midRef q)) (constantI S_ 32 0#32) reducesTo_S3x2560x2048x255_S3x2560x2048_d3 h_S_ (ix3 b R l)
      = BitVec.ofNat 32 (below (mids (entry (F := Ideal) q)) (y (ix3 b R l))) := by
  rw [Host.reduce_eq_fold_single IntOp.addi _ _ _ reduces_mids]
  unfold below
  rw [← fold_addi_setWidth_eq_card]
  refine Finset.fold_congr fun k _ => ?_
  exact (congrArg (hits y (midRef q)) (by funext d; fin_cases d <;> rfl)).trans (hits_apply y q b R l k)

/-- The reference's code is the number of midpoints below the value. -/
theorem codeRef_apply (y : FVec Ideal S3x2560x2048 .f32) (q : FVec Ideal S256 .f32) (b : Fin 3) (R : Fin 2560) (l : Fin 2048) :
    codeRef y (midRef q) (ix3 b R l) = BitVec.ofNat 8 (below (mids (entry (F := Ideal) q)) (y (ix3 b R l))) := by
  have e : codeRef y (midRef q) = trunci 8 (Host.reduce IntOp.addi (hits y (midRef q)) (constantI S_ 32 0#32) reducesTo_S3x2560x2048x255_S3x2560x2048_d3 h_S_) natLt_8_32 := rfl
  have t : ∀ (X : IVec S3x2560x2048 32) (i : S3x2560x2048.Idx), trunci 8 X natLt_8_32 i = (X i).setWidth 8 := fun _ _ => rfl
  rw [e, t, hits_sum]
  exact BitVec.setWidth_ofNat_of_le (by decide) _

end Cert.ReferenceIdeal.Hand

end
-- ==== Proof.KI.Group.lean ====
module

public import proofs.«01_k».proof.Proof.KI.Loops

/-! The pieces one trip of the outer loop writes into each of the five results, each piece a rectangle and a tile. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The four running maxima of first moments among the eight the first loop carries. -/
def evens (t : FVec F S16x128 .f32 × FVec F S16x128 .f32 × FVec F S16x128 .f32 × FVec F S16x128 .f32 × FVec F S16x128 .f32 × FVec F S16x128 .f32 × FVec F S16x128 .f32 × FVec F S16x128 .f32) : Fin 4 → FVec F S16x128 .f32
  | 0 => t.1 | 1 => t.2.2.1 | 2 => t.2.2.2.2.1 | 3 => t.2.2.2.2.2.2.1

/-- The four running maxima of second moments among the eight the first loop carries. -/
def odds (t : FVec F S16x128 .f32 × FVec F S16x128 .f32 × FVec F S16x128 .f32 × FVec F S16x128 .f32 × FVec F S16x128 .f32 × FVec F S16x128 .f32 × FVec F S16x128 .f32 × FVec F S16x128 .f32) : Fin 4 → FVec F S16x128 .f32
  | 0 => t.2.1 | 1 => t.2.2.2.1 | 2 => t.2.2.2.2.2.1 | 3 => t.2.2.2.2.2.2.2

variable (c : Dev nD)
  (i : grid0.Coords) (arg2 : Memref sig .tc .vmem S2x128 .f32) (harg2 : arg2.IsWhole)
  (arg3 : Memref sig .tc .vmem S2x128 .f32) (harg3 : arg3.IsWhole) (arg4 : Memref sig .tc .vmem S2x128 .f32)
  (harg4 : arg4.IsWhole) (arg5 : Memref sig .tc .vmem S2x128 .f32) (harg5 : arg5.IsWhole)
  (arg6 : Memref sig .tc .vmem S1x32x8192 .bf16) (harg6 : arg6.IsWhole) (arg7 : Memref sig .tc .vmem S1x32x8192 .bf16)
  (harg7 : arg7.IsWhole) (arg8 : Memref sig .tc .vmem S1x128x2048 .i8) (harg8 : arg8.IsWhole)
  (arg9 : Memref sig .tc .vmem S1x128x2048 .i8) (harg9 : arg9.IsWhole) (arg10 : Memref sig .tc .vmem S1x32x4 .f32)
  (harg10 : arg10.IsWhole) (arg11 : Memref sig .tc .vmem S1x32x4 .f32) (harg11 : arg11.IsWhole)
  (arg12 : Memref sig .tc .vmem S1x32x8192 .bf16) (harg12 : arg12.IsWhole) (arg13 : Memref sig .tc .vmem S1x128x2048 .i8)
  (harg13 : arg13.IsWhole) (arg14 : Memref sig .tc .vmem S1x128x2048 .i8) (harg14 : arg14.IsWhole)
  (arg15 : Memref sig .tc .vmem S1x32x4 .f32) (harg15 : arg15.IsWhole) (arg16 : Memref sig .tc .vmem S1x32x4 .f32)
  (harg16 : arg16.IsWhole) (arg17 : Memref sig .tc .vmem S32x8192 .f32) (harg17 : arg17.IsWhole)
  (arg18 : Memref sig .tc .vmem S32x8192 .f32) (harg18 : arg18.IsWhole)
variable
  (X6 : BufTy.Contents (Elt F) arg6.view.ty) (X7 : BufTy.Contents (Elt F) arg7.view.ty)
  (X8 : BufTy.Contents (Elt F) arg8.view.ty) (X9 : BufTy.Contents (Elt F) arg9.view.ty)
  (X10 : BufTy.Contents (Elt F) arg10.view.ty) (X11 : BufTy.Contents (Elt F) arg11.view.ty)
  (f17 : BufTy.Contents (Elt F) arg17.view.ty) (f18 : BufTy.Contents (Elt F) arg18.view.ty)
  (v0 v4 v8 v12 v16 v20 v24 v28 : Vec F S1x128 .f32) (k1 : Fin k0_t1_loop.trips)

/-- Group `k1`'s scales of the four quarters. -/
def aOf (v : Memref sig .tc .vmem S1x32x4 .f32) (X : BufTy.Contents (Elt F) v.view.ty) (k1 : Fin k0_t1_loop.trips) (q : Fin 4) :
    Vec F S1x16x1 .f32 := v.view.readAt (Elt F) (rA k1 q).toLoadRect X

/-- What the first loop carries and has written when it ends. -/
def firstLoop := st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay1 v0) (k0_pay2 v4) (k0_pay3 v8) (k0_pay4 v12) 0#32 1#32 k1 (Scalar.muli (Scf.iv 0#32 1#32 k1) 16#32) (Scalar.muli (Scalar.muli (Scf.iv 0#32 1#32 k1) 16#32) 4#32) (aOf arg10 X10 k1 0) (aOf arg10 X10 k1 1) (aOf arg10 X10 k1 2) (aOf arg10 X10 k1 3) (aOf arg11 X11 k1 0) (aOf arg11 X11 k1 1) (aOf arg11 X11 k1 2) (aOf arg11 X11 k1 3) X6 X7 X8 X9 (k0_pay138, k0_pay138, k0_pay138, k0_pay138, k0_pay138, k0_pay138, k0_pay138, k0_pay138) k0_t2_loop.trips

set_option maxHeartbeats 4000000 in
theorem trip_w : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k1 X6 X7 X8 X9 X10 X11 f17 f18).1 = (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).2.1 := by
  unfold trip
  rfl

set_option maxHeartbeats 4000000 in
theorem trip_ma : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k1 X6 X7 X8 X9 X10 X11 f17 f18).2.2.2.1
    = four fun q => ⟨rA k1 q, shapeCast S1x16x1 (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).1 q)) shapeCasts_S16x1_S1x16x1⟩ := by
  unfold trip
  rfl

set_option maxHeartbeats 4000000 in
theorem trip_va : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k1 X6 X7 X8 X9 X10 X11 f17 f18).2.2.2.2.1
    = four fun q => ⟨rA k1 q, shapeCast S1x16x1 (absTile (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).1 q)) shapeCasts_S16x1_S1x16x1⟩ := by
  unfold trip
  rfl

set_option maxHeartbeats 4000000 in
theorem trip_mc (im iv : Fin 4 → FVec F S16x1 .f32) (hm : im = (fun q => invTile (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).1 q)))) (hv : iv = (fun q => invTile (absTile (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).1 q)))) : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k1 X6 X7 X8 X9 X10 X11 f17 f18).2.1
    = (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k1 (Scalar.muli (Scf.iv 0#32 1#32 k1) 16#32) (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).1 3) (im 0) (iv 0) (im 1) (iv 1) (im 2) (iv 2) (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).1 3)) (arg17.view.writes (Elt F) f17 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).2.2.1) (arg18.view.writes (Elt F) f18 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).2.2.2) k0_t3_loop.trips).1 := by
  subst hm hv
  unfold trip
  rfl

set_option maxHeartbeats 4000000 in
theorem trip_vc (im iv : Fin 4 → FVec F S16x1 .f32) (hm : im = (fun q => invTile (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).1 q)))) (hv : iv = (fun q => invTile (absTile (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).1 q)))) : (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k1 X6 X7 X8 X9 X10 X11 f17 f18).2.2.1
    = (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k1 (Scalar.muli (Scf.iv 0#32 1#32 k1) 16#32) (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).1 3) (im 0) (iv 0) (im 1) (iv 1) (im 2) (iv 2) (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).1 3)) (arg17.view.writes (Elt F) f17 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).2.2.1) (arg18.view.writes (Elt F) f18 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k1).2.2.2) k0_t3_loop.trips).2 := by
  subst hm hv
  unfold trip
  rfl

end Cert.KernelIdeal.Hand

end
-- ==== Proof.KI.Values.lean ====
module

public import proofs.«01_k».proof.Proof.KI.Places
public import proofs.«01_k».proof.Proof.KI.Group

/-! The tiles of one group of sixteen rows, element by element: each holds the step's values at its own place in the block. -/

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic

variable {F : FTy → Type} [FloatOps F]

/-- One row of a table, repeated in sixteen rows. -/
theorem row_apply (v : Vec F S1x128 .f32) (a : Fin 16) (n : Fin 128) :
    broadcastTo S16x128 (shapeCast S1x128 (shapeCast S1x128 v shapeCasts_S1x128_S1x128) shapeCasts_S1x128_S1x128) broadcasts_S1x128_S16x128 (ix2 a n)
      = v (ix2 (0 : Fin 1) n) := by
  rw [broadcastTo_apply _ _ (ix2 a n) (ix2 (0 : Fin 1) n) (by intro d; fin_cases d <;> rfl), shapeCast_self, shapeCast_self]

theorem tab_rows (T : Vec F S2x128 .f32) {lo hi : Vec F S1x128 .f32} (h0 : ∀ n, lo (ix2 (0 : Fin 1) n) = T (ix2 (0 : Fin 2) n))
    (h1 : ∀ n, hi (ix2 (0 : Fin 1) n) = T (ix2 (1 : Fin 2) n)) {lo' hi' : FVec F S16x128 .f32}
    (e0 : ∀ a n, lo' (ix2 a n) = lo (ix2 (0 : Fin 1) n)) (e1 : ∀ a n, hi' (ix2 a n) = hi (ix2 (0 : Fin 1) n)) : IsTable (tab T) lo' hi' := by
  intro a n
  have hn := n.isLt
  rw [e0, e1, h0, h1]
  constructor
  · refine congrArg T (congrArg₂ ix2 (Fin.ext ?_) (Fin.ext ?_))
    · show 0 = n.val / 128 % 2; omega
    · show n.val = n.val % 128; omega
  · refine congrArg T (congrArg₂ ix2 (Fin.ext ?_) (Fin.ext ?_))
    · show 1 = (128 + n.val) / 128 % 2; omega
    · show n.val = (128 + n.val) % 128; omega

/-- The running maximum of tiles, element by element. -/
theorem runTile_apply (f : Fin k0_t2_loop.trips → FVec F S16x128 .f32) (g : ℕ → ℕ → ℕ → F .f32)
    (h : ∀ t (a : Fin 16) (l : Fin 128), f t (ix2 a l) = g t.val a.val l.val) (n : ℕ) (hn : n ≤ k0_t2_loop.trips) :
    runTile f n = fun x => runMax (fun t => g t (x 0).val (x 1).val) n := by
  induction n with
  | zero => rfl
  | succ n ih =>
    have hlt : n < k0_t2_loop.trips := hn
    funext x
    rw [runTile, dif_pos hlt, ih hlt.le]
    show FloatOps.maximumf _ (FloatOps.absf (f ⟨n, hlt⟩ x)) = _
    obtain ⟨a, l, rfl⟩ : ∃ (a : Fin 16) (l : Fin 128), x = ix2 a l := ⟨x 0, x 1, by funext d; fin_cases d <;> rfl⟩
    rw [h]
    rfl

/-- The scales of a group, from the running maxima of its tiles. -/
theorem absTile_apply (f : ℕ → ℕ → ℕ → F .f32) (k q : ℕ) (T : FVec F S16x128 .f32)
    (h : T = fun x => runMax (fun t => f (16 * k + (x 0).val) q (128 * t + (x 1).val)) 16) (a : Fin 16) :
    absTile T (ix2 a (0 : Fin 1)) = amax f (16 * k + a.val) q := by
  have e1 : (16 * k + a.val) / 16 = k := by omega
  have e2 : (⟨(16 * k + a.val) % 16, Nat.mod_lt _ (by decide)⟩ : Fin 16) = a := Fin.ext (by show (16 * k + a.val) % 16 = a.val; omega)
  unfold amax
  rw [h, e1, e2]

theorem invTile_apply (b : FVec F S16x1 .f32) (a : Fin 16) : invTile b (ix2 a (0 : Fin 1)) = inv (b (ix2 a (0 : Fin 1))) := rfl

section Tiles

variable (arg6 arg7 : Memref sig .tc .vmem S1x32x8192 .bf16) (arg8 arg9 : Memref sig .tc .vmem S1x128x2048 .i8)
  (arg10 arg11 : Memref sig .tc .vmem S1x32x4 .f32) (qm qv dm dv : Vec F S2x128 .f32)
  (X6 : BufTy.Contents (Elt F) arg6.view.ty) (X7 : BufTy.Contents (Elt F) arg7.view.ty)
  (X8 : BufTy.Contents (Elt F) arg8.view.ty) (X9 : BufTy.Contents (Elt F) arg9.view.ty)
  (X10 : BufTy.Contents (Elt F) arg10.view.ty) (X11 : BufTy.Contents (Elt F) arg11.view.ty)

/-- The operands the views hold, with the four tables given. -/
abbrev insOf : Ins F := blkIns qm qv dm dv (arg6.view.read (Elt F) X6) (arg7.view.read (Elt F) X7) (arg8.view.read (Elt F) X8)
  (arg9.view.read (Elt F) X9) (arg10.view.read (Elt F) X10) (arg11.view.read (Elt F) X11)

variable (k : Fin k0_t1_loop.trips) (t : Fin k0_t2_loop.trips) (q : Fin 4) (a : Fin 16) (l : Fin 128)

theorem load_w (v : Memref sig .tc .vmem S1x32x8192 .bf16) (X : BufTy.Contents (Elt F) v.view.ty) :
    v.view.readAt (Elt F) (rW k t q).toLoadRect X (ix3 (0 : Fin 1) a l)
      = v.view.read (Elt F) X (ix3 (0 : Fin 1) (Fin.ofNat 32 (16 * k.val + a.val)) (Fin.ofNat 8192 (2048 * q.val + (128 * t.val + l.val)))) :=
  congrArg (v.view.read (Elt F) X) (emb_rW k t q a l)

theorem load_c (v : Memref sig .tc .vmem S1x128x2048 .i8) (X : BufTy.Contents (Elt F) v.view.ty) :
    v.view.readAt (Elt F) (rC k t).toLoadRect X (ix3 (0 : Fin 1) (⟨4 * a.val + q.val, by omega⟩ : Fin 64) l)
      = v.view.read (Elt F) X (ix3 (0 : Fin 1) (Fin.ofNat 128 (4 * (16 * k.val + a.val) + q.val)) (Fin.ofNat 2048 (128 * t.val + l.val))) := by
  refine (congrArg (v.view.read (Elt F) X) (emb_rC k t ⟨4 * a.val + q.val, by omega⟩ l)).trans ?_
  show v.view.read (Elt F) X (ix3 (0 : Fin 1) (Fin.ofNat 128 (64 * k.val + (4 * a.val + q.val))) _) = _
  rw [show 64 * k.val + (4 * a.val + q.val) = 4 * (16 * k.val + a.val) + q.val by omega]

theorem load_a (v : Memref sig .tc .vmem S1x32x4 .f32) (X : BufTy.Contents (Elt F) v.view.ty) :
    aOf v X k q (ix3 (0 : Fin 1) a (0 : Fin 1)) = v.view.read (Elt F) X (ix3 (0 : Fin 1) (Fin.ofNat 32 (16 * k.val + a.val)) (Fin.ofNat 4 q.val)) :=
  congrArg (v.view.read (Elt F) X) (emb_rA k q a)

theorem mOf_apply {lo hi : FVec F S16x128 .f32} (hT : IsTable (tab qm) lo hi) :
    mOf arg7 arg8 X7 X8 lo hi k (aOf arg10 X10 k) t q (ix2 a l)
      = mCell (insOf arg6 arg7 arg8 arg9 arg10 arg11 qm qv dm dv X6 X7 X8 X9 X10 X11) (16 * k.val + a.val) q.val (128 * t.val + l.val) := by
  unfold mOf
  rw [mTile_apply, decTile_apply hT, load_w, load_c, load_a]
  rfl

theorem vOf_apply {lo hi : FVec F S16x128 .f32} (hT : IsTable (tab qv) lo hi) :
    vOf arg7 arg9 X7 X9 lo hi k (aOf arg11 X11 k) t q (ix2 a l)
      = vCell (insOf arg6 arg7 arg8 arg9 arg10 arg11 qm qv dm dv X6 X7 X8 X9 X10 X11) (16 * k.val + a.val) q.val (128 * t.val + l.val) := by
  unfold vOf
  rw [vTile_apply, decTile_apply hT, load_w, load_c, load_a]
  rfl

theorem wOf_apply {lo hi lo' hi' : FVec F S16x128 .f32} (hT : IsTable (tab qm) lo hi) (hT' : IsTable (tab qv) lo' hi') :
    wOf arg6 arg7 arg8 arg9 X6 X7 X8 X9 lo hi lo' hi' k (aOf arg10 X10 k) (aOf arg11 X11 k) t q (ix3 (0 : Fin 1) a l)
      = wCell (insOf arg6 arg7 arg8 arg9 arg10 arg11 qm qv dm dv X6 X7 X8 X9 X10 X11) (16 * k.val + a.val) q.val (128 * t.val + l.val) := by
  unfold wOf
  rw [wTile_apply, mOf_apply arg6 arg7 arg8 arg9 arg10 arg11 qm qv dm dv X6 X7 X8 X9 X10 X11 k t q a l hT,
    vOf_apply arg6 arg7 arg8 arg9 arg10 arg11 qm qv dm dv X6 X7 X8 X9 X10 X11 k t q a l hT', load_w]
  rfl

end Tiles

/-- The moments a scratch buffer holds at the rows of a group. -/
def HoldsRows (v : Memref sig .tc .vmem S32x8192 .f32) (X : BufTy.Contents (Elt F) v.view.ty) (f : ℕ → ℕ → ℕ → F .f32) (k : ℕ) : Prop :=
  ∀ y : S32x8192.Idx, 16 * k ≤ (y 0).val → (y 0).val < 16 * (k + 1) → v.view.read (Elt F) X y = sBlk f y

theorem sBlk_at (f : ℕ → ℕ → ℕ → F .f32) (r : ℕ) (hr : r < 32) (q : Fin 4) (j : ℕ) (hj : j < 2048) :
    sBlk f (ix2 (Fin.ofNat 32 r) (Fin.ofNat 8192 (2048 * q.val + j))) = f r q.val j := by
  show f (r % 32) ((2048 * q.val + j) % 8192 / 2048) ((2048 * q.val + j) % 8192 % 2048) = _
  congr 1 <;> omega

/-- A tile of codes made from a scratch buffer that holds the moments `f` at the group's rows, scaled by the group's own scales. -/
theorem codesOf_apply (v : Memref sig .tc .vmem S32x8192 .f32) (X : BufTy.Contents (Elt F) v.view.ty) (f : ℕ → ℕ → ℕ → F .f32)
    (T : ℕ → F .f32) {lo hi : FVec F S16x128 .f32} (hT : IsTable T lo hi) (k : Fin k0_t1_loop.trips) (hX : HoldsRows v X f k.val)
    (im : Fin 4 → FVec F S16x1 .f32) (him : ∀ q (a : Fin 16), im q (ix2 a (0 : Fin 1)) = inv (amax f (16 * k.val + a.val) q.val))
    (t : Fin k0_t3_loop.trips) (x : S1x64x128.Idx) : codesOf v X lo hi im k t x = cBlk T f ((rC' k t).emb x) := by
  have hk := k_lt k
  have ht := t3_lt t
  have hx1 : (x 1).val < 64 := (x 1).isLt
  have hx2 : (x 2).val < 128 := (x 2).isLt
  obtain ⟨p, l, rfl⟩ : ∃ (p : Fin 64) (l : Fin 128), x = ix3 (0 : Fin 1) p l :=
    ⟨x 1, x 2, by funext d; fin_cases d; exacts [Subsingleton.elim (α := Fin 1) _ _, rfl, rfl]⟩
  have hp := p.isLt
  have hl := l.isLt
  unfold codesOf
  rw [packTile_apply _ (fun q => codeCell T f (16 * k.val + p.val / 4) q.val (128 * t.val + l.val)) (⟨p.val / 4, by omega⟩ : Fin 16) l
    (fun q => enc_lt _ _) ?_ (⟨p.val % 4, Nat.mod_lt _ (by decide)⟩ : Fin 4) p (by show p.val = 4 * (p.val / 4) + p.val % 4; omega), emb_rC']
  · show _ = BitVec.ofNat 8 (codeCell T f ((64 * k.val + p.val) % 128 / 4) ((64 * k.val + p.val) % 128 % 4) ((128 * t.val + l.val) % 2048))
    refine congrArg (BitVec.ofNat 8) ?_
    rw [show (64 * k.val + p.val) % 128 / 4 = 16 * k.val + p.val / 4 by omega, show (64 * k.val + p.val) % 128 % 4 = p.val % 4 by omega,
      show (128 * t.val + l.val) % 2048 = 128 * t.val + l.val by omega]
  · intro q
    rw [encTile_apply hT, scaleTile_apply, him]
    congr 2
    congr 1
    refine (congrArg (v.view.read (Elt F) X) (emb_rS' k t q ⟨p.val / 4, by omega⟩ l)).trans ?_
    rw [hX _ (by show _ ≤ (16 * k.val + p.val / 4) % 32; omega) (by show (16 * k.val + p.val / 4) % 32 < _; omega)]
    exact sBlk_at f (16 * k.val + p.val / 4) (by omega) q _ (by omega)

/-- Writing pieces that agree with `G` and cover the rows of group `k` extends agreement from the rows before to those rows. -/
theorem rows_succ {s : Shape} {e : EltTy} (v : Memref sig .tc .vmem s e) (f : BufTy.Contents (Elt F) v.view.ty) (L : List (View.Piece (Elt F) s e))
    (G : s.Idx → Elt F e) (row : s.Idx → ℕ) (b k : ℕ) (h : ∀ y, row y < b * k → v.view.read (Elt F) f y = G y)
    (hL : ∀ p ∈ L, ∀ x, p.2 x = G (p.1.emb x)) (hc : ∀ y, b * k ≤ row y → row y < b * (k + 1) → ∃ p ∈ L, y ∈ p.1.set) :
    ∀ y, row y < b * (k + 1) → v.view.read (Elt F) (v.view.writes (Elt F) f L) y = G y := by
  intro y hy
  by_cases hm : ∃ p ∈ L, y ∈ p.1.set
  · exact View.read_writes_apply_of_pieces v.view f G L hL y hm
  · rw [View.read_writes_apply_of_forall_not_mem v.view f y L (fun p hp hy => hm ⟨p, hp, hy⟩)]
    exact h y (by by_contra hlt; exact hm (hc y (not_lt.1 hlt) hy))

end Cert.KernelIdeal.Hand

end
-- ==== Proof.KI.Step.lean ====
module

public import proofs.«01_k».proof.Proof.KI.Values
public import proofs.«01_k».proof.Proof.KI.Group

/-! One trip of the outer loop brings the rows of its group in each of the five result blocks to the step's values. -/

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic

variable {F : FTy → Type} [FloatOps F]

variable (c : Dev nD)
  (i : grid0.Coords) (arg2 : Memref sig .tc .vmem S2x128 .f32) (harg2 : arg2.IsWhole)
  (arg3 : Memref sig .tc .vmem S2x128 .f32) (harg3 : arg3.IsWhole) (arg4 : Memref sig .tc .vmem S2x128 .f32)
  (harg4 : arg4.IsWhole) (arg5 : Memref sig .tc .vmem S2x128 .f32) (harg5 : arg5.IsWhole)
  (arg6 : Memref sig .tc .vmem S1x32x8192 .bf16) (harg6 : arg6.IsWhole) (arg7 : Memref sig .tc .vmem S1x32x8192 .bf16)
  (harg7 : arg7.IsWhole) (arg8 : Memref sig .tc .vmem S1x128x2048 .i8) (harg8 : arg8.IsWhole)
  (arg9 : Memref sig .tc .vmem S1x128x2048 .i8) (harg9 : arg9.IsWhole) (arg10 : Memref sig .tc .vmem S1x32x4 .f32)
  (harg10 : arg10.IsWhole) (arg11 : Memref sig .tc .vmem S1x32x4 .f32) (harg11 : arg11.IsWhole)
  (arg12 : Memref sig .tc .vmem S1x32x8192 .bf16) (harg12 : arg12.IsWhole) (arg13 : Memref sig .tc .vmem S1x128x2048 .i8)
  (harg13 : arg13.IsWhole) (arg14 : Memref sig .tc .vmem S1x128x2048 .i8) (harg14 : arg14.IsWhole)
  (arg15 : Memref sig .tc .vmem S1x32x4 .f32) (harg15 : arg15.IsWhole) (arg16 : Memref sig .tc .vmem S1x32x4 .f32)
  (harg16 : arg16.IsWhole) (arg17 : Memref sig .tc .vmem S32x8192 .f32) (harg17 : arg17.IsWhole)
  (arg18 : Memref sig .tc .vmem S32x8192 .f32) (harg18 : arg18.IsWhole)
variable
  (X6 : BufTy.Contents (Elt F) arg6.view.ty) (X7 : BufTy.Contents (Elt F) arg7.view.ty)
  (X8 : BufTy.Contents (Elt F) arg8.view.ty) (X9 : BufTy.Contents (Elt F) arg9.view.ty)
  (X10 : BufTy.Contents (Elt F) arg10.view.ty) (X11 : BufTy.Contents (Elt F) arg11.view.ty)
  (f17 : BufTy.Contents (Elt F) arg17.view.ty) (f18 : BufTy.Contents (Elt F) arg18.view.ty)
  (qm qv dm dv : Vec F S2x128 .f32) (v0 v4 v8 v12 v16 v20 v24 v28 : Vec F S1x128 .f32) (k : Fin k0_t1_loop.trips)
  (hqm : IsTable (tab qm) (k0_pay1 v0) (k0_pay2 v4)) (hqv : IsTable (tab qv) (k0_pay3 v8) (k0_pay4 v12))
  (hdm : IsTable (tab dm) (k0_pay5 v16) (k0_pay6 v20)) (hdv : IsTable (tab dv) (k0_pay7 v24) (k0_pay8 v28))

/-- The pieces of weights that the first loop has written when it ends. -/
theorem first_w : ∀ p, p ∈ (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.1 ↔ ∃ (t : Fin k0_t2_loop.trips) (q : Fin 4), t.val < k0_t2_loop.trips ∧
      p = ⟨rW k t q, wOf arg6 arg7 arg8 arg9 X6 X7 X8 X9 (k0_pay1 v0) (k0_pay2 v4) (k0_pay3 v8) (k0_pay4 v12) k (aOf arg10 X10 k) (aOf arg11 X11 k) t q⟩ :=
  (st_l c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 (k0_pay1 v0) (k0_pay2 v4) (k0_pay3 v8) (k0_pay4 v12) k (Scalar.muli (Scf.iv 0#32 1#32 k) 16#32) (Scalar.muli (Scalar.muli (Scf.iv 0#32 1#32 k) 16#32) 4#32) (aOf arg10 X10 k) (aOf arg11 X11 k) k0_t2_loop.trips le_rfl).1

/-- Its pieces of first moments. -/
theorem first_m : ∀ p, p ∈ (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.2.1 ↔ ∃ (t : Fin k0_t2_loop.trips) (q : Fin 4), t.val < k0_t2_loop.trips ∧
      p = ⟨rS k t q, shapeCast S16x128 (mOf arg7 arg8 X7 X8 (k0_pay1 v0) (k0_pay2 v4) k (aOf arg10 X10 k) t q) shapeCasts_S16x128_S16x128⟩ :=
  (st_l c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 (k0_pay1 v0) (k0_pay2 v4) (k0_pay3 v8) (k0_pay4 v12) k (Scalar.muli (Scf.iv 0#32 1#32 k) 16#32) (Scalar.muli (Scalar.muli (Scf.iv 0#32 1#32 k) 16#32) 4#32) (aOf arg10 X10 k) (aOf arg11 X11 k) k0_t2_loop.trips le_rfl).2.1

/-- Its pieces of second moments. -/
theorem first_v : ∀ p, p ∈ (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.2.2 ↔ ∃ (t : Fin k0_t2_loop.trips) (q : Fin 4), t.val < k0_t2_loop.trips ∧
      p = ⟨rS k t q, shapeCast S16x128 (vOf arg7 arg9 X7 X9 (k0_pay3 v8) (k0_pay4 v12) k (aOf arg11 X11 k) t q) shapeCasts_S16x128_S16x128⟩ :=
  (st_l c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 (k0_pay1 v0) (k0_pay2 v4) (k0_pay3 v8) (k0_pay4 v12) k (Scalar.muli (Scf.iv 0#32 1#32 k) 16#32) (Scalar.muli (Scalar.muli (Scf.iv 0#32 1#32 k) 16#32) 4#32) (aOf arg10 X10 k) (aOf arg11 X11 k) k0_t2_loop.trips le_rfl).2.2

theorem first_evens (q : Fin 4) : evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q
    = runTile (mOf arg7 arg8 X7 X8 (k0_pay1 v0) (k0_pay2 v4) k (aOf arg10 X10 k) · q) k0_t2_loop.trips :=
  (congrArg (evens · q) (st_r c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 (k0_pay1 v0) (k0_pay2 v4) (k0_pay3 v8) (k0_pay4 v12) k (Scalar.muli (Scf.iv 0#32 1#32 k) 16#32) (Scalar.muli (Scalar.muli (Scf.iv 0#32 1#32 k) 16#32) 4#32) (aOf arg10 X10 k) (aOf arg11 X11 k) k0_t2_loop.trips le_rfl)).trans (by fin_cases q <;> rfl)

theorem first_odds (q : Fin 4) : odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q
    = runTile (vOf arg7 arg9 X7 X9 (k0_pay3 v8) (k0_pay4 v12) k (aOf arg11 X11 k) · q) k0_t2_loop.trips :=
  (congrArg (odds · q) (st_r c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 (k0_pay1 v0) (k0_pay2 v4) (k0_pay3 v8) (k0_pay4 v12) k (Scalar.muli (Scf.iv 0#32 1#32 k) 16#32) (Scalar.muli (Scalar.muli (Scf.iv 0#32 1#32 k) 16#32) 4#32) (aOf arg10 X10 k) (aOf arg11 X11 k) k0_t2_loop.trips le_rfl)).trans (by fin_cases q <;> rfl)

include hqm in
theorem ma_apply (q : Fin 4) (a : Fin 16) : absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q) (ix2 a (0 : Fin 1)) = amax (mCell (insOf arg6 arg7 arg8 arg9 arg10 arg11 qm qv dm dv X6 X7 X8 X9 X10 X11)) (16 * k.val + a.val) q.val := by
  refine absTile_apply _ k.val q.val _ ((first_evens c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k q).trans ?_) a
  refine (runTile_apply _ (fun t a l => mCell (insOf arg6 arg7 arg8 arg9 arg10 arg11 qm qv dm dv X6 X7 X8 X9 X10 X11) (16 * k.val + a) q.val (128 * t + l))
    (fun t a l => mOf_apply arg6 arg7 arg8 arg9 arg10 arg11 qm qv dm dv X6 X7 X8 X9 X10 X11 k t q a l hqm) _ le_rfl).trans ?_
  rw [trips2]

include hqv in
theorem va_apply (q : Fin 4) (a : Fin 16) : absTile (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q) (ix2 a (0 : Fin 1)) = amax (vCell (insOf arg6 arg7 arg8 arg9 arg10 arg11 qm qv dm dv X6 X7 X8 X9 X10 X11)) (16 * k.val + a.val) q.val := by
  refine absTile_apply _ k.val q.val _ ((first_odds c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k q).trans ?_) a
  refine (runTile_apply _ (fun t a l => vCell (insOf arg6 arg7 arg8 arg9 arg10 arg11 qm qv dm dv X6 X7 X8 X9 X10 X11) (16 * k.val + a) q.val (128 * t + l))
    (fun t a l => vOf_apply arg6 arg7 arg8 arg9 arg10 arg11 qm qv dm dv X6 X7 X8 X9 X10 X11 k t q a l hqv) _ le_rfl).trans ?_
  rw [trips2]

include hqm hqv in
theorem w_agree : ∀ p ∈ (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.1, ∀ x, p.2 x = wBlk (insOf arg6 arg7 arg8 arg9 arg10 arg11 qm qv dm dv X6 X7 X8 X9 X10 X11) (p.1.emb x) := by
  intro p hp
  obtain ⟨t, q, -, rfl⟩ := (first_w c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k p).1 hp
  intro x
  obtain ⟨a, l, rfl⟩ : ∃ (a : Fin 16) (l : Fin 128), x = ix3 (0 : Fin 1) a l :=
    ⟨x 1, x 2, by funext d; fin_cases d; exacts [Subsingleton.elim (α := Fin 1) _ _, rfl, rfl]⟩
  have hk := k_lt k
  have ht := t2_lt t
  have ha := a.isLt
  have hl := l.isLt
  refine (wOf_apply arg6 arg7 arg8 arg9 arg10 arg11 qm qv dm dv X6 X7 X8 X9 X10 X11 k t q a l hqm hqv).trans ?_
  refine Eq.trans ?_ (congrArg (wBlk (insOf arg6 arg7 arg8 arg9 arg10 arg11 qm qv dm dv X6 X7 X8 X9 X10 X11)) (emb_rW k t q a l)).symm
  show _ = wCell _ ((16 * k.val + a.val) % 32) ((2048 * q.val + (128 * t.val + l.val)) % 8192 / 2048) ((2048 * q.val + (128 * t.val + l.val)) % 8192 % 2048)
  rw [show (16 * k.val + a.val) % 32 = 16 * k.val + a.val by omega,
    show (2048 * q.val + (128 * t.val + l.val)) % 8192 / 2048 = q.val by omega,
    show (2048 * q.val + (128 * t.val + l.val)) % 8192 % 2048 = 128 * t.val + l.val by omega]

include hqm in
/-- The scratch buffer holds the first moments of the group's rows when the first loop ends. -/
theorem scratch_m : HoldsRows arg17 (arg17.view.writes (Elt F) f17 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.2.1) (mCell (insOf arg6 arg7 arg8 arg9 arg10 arg11 qm qv dm dv X6 X7 X8 X9 X10 X11)) k.val := by
  intro y h0 h1
  refine View.read_writes_apply_of_pieces arg17.view f17 (sBlk (mCell (insOf arg6 arg7 arg8 arg9 arg10 arg11 qm qv dm dv X6 X7 X8 X9 X10 X11))) _ ?_ y ?_
  · intro p hp
    obtain ⟨t, q, -, rfl⟩ := (first_m c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k p).1 hp
    intro x
    obtain ⟨a, l, rfl⟩ : ∃ (a : Fin 16) (l : Fin 128), x = ix2 a l := ⟨x 0, x 1, by funext d; fin_cases d <;> rfl⟩
    have hk := k_lt k
    have ht := t2_lt t
    refine (congrFun (shapeCast_self (mOf arg7 arg8 X7 X8 (k0_pay1 v0) (k0_pay2 v4) k (aOf arg10 X10 k) t q) shapeCasts_S16x128_S16x128) (ix2 a l)).trans ?_
    refine (mOf_apply arg6 arg7 arg8 arg9 arg10 arg11 qm qv dm dv X6 X7 X8 X9 X10 X11 k t q a l hqm).trans ?_
    exact (sBlk_at _ (16 * k.val + a.val) (by omega) q (128 * t.val + l.val) (by omega)).symm.trans (congrArg (sBlk _) (emb_rS k t q a l)).symm
  · obtain ⟨t, q, hm⟩ := cov_rS k y h0 h1
    exact ⟨_, (first_m c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k _).2 ⟨t, q, t.isLt, rfl⟩, hm⟩

include hqv in
/-- The scratch buffer holds the second moments of the group's rows when the first loop ends. -/
theorem scratch_v : HoldsRows arg18 (arg18.view.writes (Elt F) f18 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.2.2) (vCell (insOf arg6 arg7 arg8 arg9 arg10 arg11 qm qv dm dv X6 X7 X8 X9 X10 X11)) k.val := by
  intro y h0 h1
  refine View.read_writes_apply_of_pieces arg18.view f18 (sBlk (vCell (insOf arg6 arg7 arg8 arg9 arg10 arg11 qm qv dm dv X6 X7 X8 X9 X10 X11))) _ ?_ y ?_
  · intro p hp
    obtain ⟨t, q, -, rfl⟩ := (first_v c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k p).1 hp
    intro x
    obtain ⟨a, l, rfl⟩ : ∃ (a : Fin 16) (l : Fin 128), x = ix2 a l := ⟨x 0, x 1, by funext d; fin_cases d <;> rfl⟩
    have hk := k_lt k
    have ht := t2_lt t
    refine (congrFun (shapeCast_self (vOf arg7 arg9 X7 X9 (k0_pay3 v8) (k0_pay4 v12) k (aOf arg11 X11 k) t q) shapeCasts_S16x128_S16x128) (ix2 a l)).trans ?_
    refine (vOf_apply arg6 arg7 arg8 arg9 arg10 arg11 qm qv dm dv X6 X7 X8 X9 X10 X11 k t q a l hqv).trans ?_
    exact (sBlk_at _ (16 * k.val + a.val) (by omega) q (128 * t.val + l.val) (by omega)).symm.trans (congrArg (sBlk _) (emb_rS k t q a l)).symm
  · obtain ⟨t, q, hm⟩ := cov_rS k y h0 h1
    exact ⟨_, (first_v c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k _).2 ⟨t, q, t.isLt, rfl⟩, hm⟩

/-- The rows of the five result blocks that precede group `k` hold the step's values. -/
def Done (I : Ins F) (k : ℕ) (f12 : BufTy.Contents (Elt F) arg12.view.ty) (f13 : BufTy.Contents (Elt F) arg13.view.ty)
    (f14 : BufTy.Contents (Elt F) arg14.view.ty) (f15 : BufTy.Contents (Elt F) arg15.view.ty) (f16 : BufTy.Contents (Elt F) arg16.view.ty) : Prop :=
  (∀ y, (y 1).val < 16 * k → arg12.view.read (Elt F) f12 y = wBlk I y)
  ∧ (∀ y, (y 1).val < 64 * k → arg13.view.read (Elt F) f13 y = cBlk I.dm (mCell I) y)
  ∧ (∀ y, (y 1).val < 64 * k → arg14.view.read (Elt F) f14 y = cBlk I.dv (vCell I) y)
  ∧ (∀ y, (y 1).val < 16 * k → arg15.view.read (Elt F) f15 y = aBlk (mCell I) y)
  ∧ (∀ y, (y 1).val < 16 * k → arg16.view.read (Elt F) f16 y = aBlk (vCell I) y)

theorem four_mem {α : Type*} (f : Fin 4 → α) (q : Fin 4) : f q ∈ four f := by fin_cases q <;> simp [four]

theorem of_four_mem {α : Type*} {f : Fin 4 → α} {p : α} (h : p ∈ four f) : ∃ q, p = f q := by
  simp only [four, List.mem_cons, List.not_mem_nil, or_false] at h
  rcases h with h | h | h | h
  exacts [⟨3, h⟩, ⟨2, h⟩, ⟨1, h⟩, ⟨0, h⟩]

/-- The four pieces of scales agree with the block of scales, when each tile's entries are the scales. -/
theorem scales_agree (f : ℕ → ℕ → ℕ → F .f32) (k : Fin k0_t1_loop.trips) (b : Fin 4 → FVec F S16x1 .f32)
    (h : ∀ q (a : Fin 16), b q (ix2 a (0 : Fin 1)) = amax f (16 * k.val + a.val) q.val) (q : Fin 4) (x : S1x16x1.Idx) :
    shapeCast S1x16x1 (b q) shapeCasts_S16x1_S1x16x1 x = aBlk f ((rA k q).emb x) := by
  obtain ⟨a, rfl⟩ : ∃ a : Fin 16, x = ix3 (0 : Fin 1) a (0 : Fin 1) :=
    ⟨x 1, by funext d; fin_cases d; exacts [Subsingleton.elim (α := Fin 1) _ _, rfl, Subsingleton.elim (α := Fin 1) _ _]⟩
  have hk := k_lt k
  refine (shapeCast_addUnit_apply _ _ _ (ix3 (0 : Fin 1) a (0 : Fin 1))).trans ?_
  rw [show (fun d => ix3 (0 : Fin 1) a (0 : Fin 1) (Fin.succ d)) = ix2 a (0 : Fin 1) from by funext d; fin_cases d <;> rfl, h]
  refine Eq.trans ?_ (congrArg (aBlk f) (emb_rA k q a)).symm
  show _ = amax f ((16 * k.val + a.val) % 32) (q.val % 4)
  rw [show (16 * k.val + a.val) % 32 = 16 * k.val + a.val by omega, show q.val % 4 = q.val by omega]

/-- Writing the tiles of codes of a group extends agreement with the block of codes to the group's rows. -/
theorem codes_succ (o : Memref sig .tc .vmem S1x128x2048 .i8) (fo : BufTy.Contents (Elt F) o.view.ty) (L : List (View.Piece (Elt F) S1x128x2048 .i8))
    (v : Memref sig .tc .vmem S32x8192 .f32) (X : BufTy.Contents (Elt F) v.view.ty) (f : ℕ → ℕ → ℕ → F .f32)
    (T : ℕ → F .f32) {lo hi : FVec F S16x128 .f32} (hT : IsTable T lo hi) (k : Fin k0_t1_loop.trips) (hX : HoldsRows v X f k.val)
    (im : Fin 4 → FVec F S16x1 .f32) (him : ∀ q (a : Fin 16), im q (ix2 a (0 : Fin 1)) = inv (amax f (16 * k.val + a.val) q.val))
    (hL : ∀ p, p ∈ L ↔ ∃ t : Fin k0_t3_loop.trips, t.val < k0_t3_loop.trips ∧ p = ⟨rC' k t, codesOf v X lo hi im k t⟩)
    (h : ∀ y, (y 1).val < 64 * k.val → o.view.read (Elt F) fo y = cBlk T f y) :
    ∀ y, (y 1).val < 64 * (k.val + 1) → o.view.read (Elt F) (o.view.writes (Elt F) fo L) y = cBlk T f y := by
  refine rows_succ o fo L (cBlk T f) (fun y => (y 1).val) 64 k.val h (fun p hp => ?_) (fun y h0 h1 => ?_)
  · obtain ⟨t, -, rfl⟩ := (hL p).1 hp
    exact codesOf_apply v X f T hT k hX im him t
  · obtain ⟨t, hm⟩ := cov_rC' k y h0 h1
    exact ⟨_, (hL _).2 ⟨t, t.isLt, rfl⟩, hm⟩

variable (f12 : BufTy.Contents (Elt F) arg12.view.ty) (f13 : BufTy.Contents (Elt F) arg13.view.ty)
    (f14 : BufTy.Contents (Elt F) arg14.view.ty) (f15 : BufTy.Contents (Elt F) arg15.view.ty) (f16 : BufTy.Contents (Elt F) arg16.view.ty)

include hqm hqv in
theorem succ_w (h : ∀ y, (y 1).val < 16 * k.val → arg12.view.read (Elt F) f12 y = wBlk (insOf arg6 arg7 arg8 arg9 arg10 arg11 qm qv dm dv X6 X7 X8 X9 X10 X11) y) :
    ∀ y, (y 1).val < 16 * (k.val + 1) → arg12.view.read (Elt F) (arg12.view.writes (Elt F) f12 (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k X6 X7 X8 X9 X10 X11 f17 f18).1) y = wBlk (insOf arg6 arg7 arg8 arg9 arg10 arg11 qm qv dm dv X6 X7 X8 X9 X10 X11) y := by
  rw [trip_w]
  refine rows_succ arg12 f12 _ _ (fun y => (y 1).val) 16 k.val h
    (w_agree c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 qm qv dm dv v0 v4 v8 v12 k hqm hqv) (fun y h0 h1 => ?_)
  obtain ⟨t, q, hm⟩ := cov_rW k y h0 h1
  exact ⟨_, (first_w c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k _).2 ⟨t, q, t.isLt, rfl⟩, hm⟩

include hqm in
theorem succ_ma (h : ∀ y, (y 1).val < 16 * k.val → arg15.view.read (Elt F) f15 y = aBlk (mCell (insOf arg6 arg7 arg8 arg9 arg10 arg11 qm qv dm dv X6 X7 X8 X9 X10 X11)) y) :
    ∀ y, (y 1).val < 16 * (k.val + 1) → arg15.view.read (Elt F) (arg15.view.writes (Elt F) f15 (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k X6 X7 X8 X9 X10 X11 f17 f18).2.2.2.1) y = aBlk (mCell (insOf arg6 arg7 arg8 arg9 arg10 arg11 qm qv dm dv X6 X7 X8 X9 X10 X11)) y := by
  rw [trip_ma]
  refine rows_succ arg15 f15 _ _ (fun y => (y 1).val) 16 k.val h (fun p hp => ?_) (fun y h0 h1 => ?_)
  · obtain ⟨q, rfl⟩ := of_four_mem hp
    exact scales_agree _ k (fun q => absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q))
      (ma_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 qm qv dm dv v0 v4 v8 v12 k hqm) q
  · obtain ⟨q, hm⟩ := cov_rA k y h0 h1
    exact ⟨_, four_mem _ q, hm⟩

include hqv in
theorem succ_va (h : ∀ y, (y 1).val < 16 * k.val → arg16.view.read (Elt F) f16 y = aBlk (vCell (insOf arg6 arg7 arg8 arg9 arg10 arg11 qm qv dm dv X6 X7 X8 X9 X10 X11)) y) :
    ∀ y, (y 1).val < 16 * (k.val + 1) → arg16.view.read (Elt F) (arg16.view.writes (Elt F) f16 (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k X6 X7 X8 X9 X10 X11 f17 f18).2.2.2.2.1) y = aBlk (vCell (insOf arg6 arg7 arg8 arg9 arg10 arg11 qm qv dm dv X6 X7 X8 X9 X10 X11)) y := by
  rw [trip_va]
  refine rows_succ arg16 f16 _ _ (fun y => (y 1).val) 16 k.val h (fun p hp => ?_) (fun y h0 h1 => ?_)
  · obtain ⟨q, rfl⟩ := of_four_mem hp
    exact scales_agree _ k (fun q => absTile (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q))
      (va_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 qm qv dm dv v0 v4 v8 v12 k hqv) q
  · obtain ⟨q, hm⟩ := cov_rA k y h0 h1
    exact ⟨_, four_mem _ q, hm⟩

/-- The pieces of codes of the trip. -/
theorem mem_mc (im iv : Fin 4 → FVec F S16x1 .f32) (hm : im = fun q => invTile (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q))) (hv : iv = fun q => invTile (absTile (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q))) : ∀ p, p ∈ (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k X6 X7 X8 X9 X10 X11 f17 f18).2.1 ↔ ∃ t : Fin k0_t3_loop.trips, t.val < k0_t3_loop.trips ∧
      p = ⟨rC' k t, codesOf arg17 (arg17.view.writes (Elt F) f17 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.2.1) (k0_pay5 v16) (k0_pay6 v20) im k t⟩ := by
  intro p
  rw [trip_mc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f17 f18 v0 v4 v8 v12 v16 v20 v24 v28 k im iv hm hv]
  exact (pb_l c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k (Scalar.muli (Scf.iv 0#32 1#32 k) 16#32) (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 3) im iv (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 3)) (arg17.view.writes (Elt F) f17 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.2.1) (arg18.view.writes (Elt F) f18 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.2.2) (congrFun hm 3) (congrFun hv 3) k0_t3_loop.trips le_rfl).1 p

include hqm hdm in
theorem succ_mc (h : ∀ y, (y 1).val < 64 * k.val → arg13.view.read (Elt F) f13 y = cBlk (tab dm) (mCell (insOf arg6 arg7 arg8 arg9 arg10 arg11 qm qv dm dv X6 X7 X8 X9 X10 X11)) y) :
    ∀ y, (y 1).val < 64 * (k.val + 1) → arg13.view.read (Elt F) (arg13.view.writes (Elt F) f13 (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k X6 X7 X8 X9 X10 X11 f17 f18).2.1) y = cBlk (tab dm) (mCell (insOf arg6 arg7 arg8 arg9 arg10 arg11 qm qv dm dv X6 X7 X8 X9 X10 X11)) y := by
  exact codes_succ arg13 f13 _ arg17 _ (mCell (insOf arg6 arg7 arg8 arg9 arg10 arg11 qm qv dm dv X6 X7 X8 X9 X10 X11)) (tab dm) hdm k
    (scratch_m c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f17 qm qv dm dv v0 v4 v8 v12 k hqm) (fun q => invTile (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q)))
    (fun q a => (invTile_apply (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q)) a).trans
      (congrArg inv (ma_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 qm qv dm dv v0 v4 v8 v12 k hqm q a)))
    (mem_mc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f17 f18 v0 v4 v8 v12 v16 v20 v24 v28 k _ _ rfl rfl) h

/-- The pieces of codes of the trip. -/
theorem mem_vc (im iv : Fin 4 → FVec F S16x1 .f32) (hm : im = fun q => invTile (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q))) (hv : iv = fun q => invTile (absTile (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q))) : ∀ p, p ∈ (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k X6 X7 X8 X9 X10 X11 f17 f18).2.2.1 ↔ ∃ t : Fin k0_t3_loop.trips, t.val < k0_t3_loop.trips ∧
      p = ⟨rC' k t, codesOf arg18 (arg18.view.writes (Elt F) f18 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.2.2) (k0_pay7 v24) (k0_pay8 v28) iv k t⟩ := by
  intro p
  rw [trip_vc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f17 f18 v0 v4 v8 v12 v16 v20 v24 v28 k im iv hm hv]
  exact (pb_l c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v16 v20 v24 v28 k (Scalar.muli (Scf.iv 0#32 1#32 k) 16#32) (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 3) im iv (absTile (evens (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 3)) (arg17.view.writes (Elt F) f17 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.2.1) (arg18.view.writes (Elt F) f18 (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).2.2.2) (congrFun hm 3) (congrFun hv 3) k0_t3_loop.trips le_rfl).2 p

include hqv hdv in
theorem succ_vc (h : ∀ y, (y 1).val < 64 * k.val → arg14.view.read (Elt F) f14 y = cBlk (tab dv) (vCell (insOf arg6 arg7 arg8 arg9 arg10 arg11 qm qv dm dv X6 X7 X8 X9 X10 X11)) y) :
    ∀ y, (y 1).val < 64 * (k.val + 1) → arg14.view.read (Elt F) (arg14.view.writes (Elt F) f14 (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v8 v12 v16 v20 v24 v28 k X6 X7 X8 X9 X10 X11 f17 f18).2.2.1) y = cBlk (tab dv) (vCell (insOf arg6 arg7 arg8 arg9 arg10 arg11 qm qv dm dv X6 X7 X8 X9 X10 X11)) y := by
  exact codes_succ arg14 f14 _ arg18 _ (vCell (insOf arg6 arg7 arg8 arg9 arg10 arg11 qm qv dm dv X6 X7 X8 X9 X10 X11)) (tab dv) hdv k
    (scratch_v c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f18 qm qv dm dv v0 v4 v8 v12 k hqv) (fun q => invTile (absTile (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q)))
    (fun q a => (invTile_apply (absTile (odds (firstLoop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 v0 v4 v8 v12 k).1 q)) a).trans
      (congrArg inv (va_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 qm qv dm dv v0 v4 v8 v12 k hqv q a)))
    (mem_vc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f17 f18 v0 v4 v8 v12 v16 v20 v24 v28 k _ _ rfl rfl) h

end Cert.KernelIdeal.Hand

end
-- ==== Proof.KI.Value.lean ====
module

public import proofs.«01_k».proof.Proof.KI.Step
public import proofs.«01_k».proof.Proof.KI.Frame
public import Idealize.ShloMosaic.Lib.Pipeline.FrameSuffix
public import Idealize.ShloMosaic.Lib.Pipeline.FrameBody

/-! The run of the program with the five results named: at each grid point the body leaves the step's values at the blocks of the
operands. -/

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

theorem row0 (v : Memref sig .tc .vmem S2x128 .f32) (X : BufTy.Contents (Elt F) v.view.ty) (n : Fin 128) :
    v.view.readAt (Elt F) (Rect.unit (s := S2x128) ![0, 0] S1x128.size inb_S2x128_S1x128_0_0).toLoadRect X (ix2 (0 : Fin 1) n)
      = v.view.read (Elt F) X (ix2 (0 : Fin 2) n) :=
  congrArg (v.view.read (Elt F) X) (Rect.emb_eq_of_coords _ _ _ (fun d => by
    fin_cases d
    · rfl
    · show n.val = 0 + 1 * n.val; omega))

theorem row1 (v : Memref sig .tc .vmem S2x128 .f32) (X : BufTy.Contents (Elt F) v.view.ty) (n : Fin 128) :
    v.view.readAt (Elt F) (Rect.unit (s := S2x128) ![1, 0] S1x128.size inb_S2x128_S1x128_1_0).toLoadRect X (ix2 (0 : Fin 1) n)
      = v.view.read (Elt F) X (ix2 (1 : Fin 2) n) :=
  congrArg (v.view.read (Elt F) X) (Rect.emb_eq_of_coords _ _ _ (fun d => by
    fin_cases d
    · rfl
    · show n.val = 0 + 1 * n.val; omega))

/-- The two rows a table's view holds, as the body's pairs of tiles. -/
theorem view_table (v : Memref sig .tc .vmem S2x128 .f32) (X : BufTy.Contents (Elt F) v.view.ty) {lo hi : FVec F S16x128 .f32}
    (e0 : ∀ a n, lo (ix2 a n) = v.view.readAt (Elt F) (Rect.unit (s := S2x128) ![0, 0] S1x128.size inb_S2x128_S1x128_0_0).toLoadRect X (ix2 (0 : Fin 1) n))
    (e1 : ∀ a n, hi (ix2 a n) = v.view.readAt (Elt F) (Rect.unit (s := S2x128) ![1, 0] S1x128.size inb_S2x128_S1x128_1_0).toLoadRect X (ix2 (0 : Fin 1) n)) :
    IsTable (tab (v.view.read (Elt F) X)) lo hi :=
  tab_rows (v.view.read (Elt F) X) (row0 v X) (row1 v X) e0 e1
section Trip

variable (c : Dev nD)
  (i : grid0.Coords) (arg2 : Memref sig .tc .vmem S2x128 .f32) (harg2 : arg2.IsWhole)
  (arg3 : Memref sig .tc .vmem S2x128 .f32) (harg3 : arg3.IsWhole) (arg4 : Memref sig .tc .vmem S2x128 .f32)
  (harg4 : arg4.IsWhole) (arg5 : Memref sig .tc .vmem S2x128 .f32) (harg5 : arg5.IsWhole)
  (arg6 : Memref sig .tc .vmem S1x32x8192 .bf16) (harg6 : arg6.IsWhole) (arg7 : Memref sig .tc .vmem S1x32x8192 .bf16)
  (harg7 : arg7.IsWhole) (arg8 : Memref sig .tc .vmem S1x128x2048 .i8) (harg8 : arg8.IsWhole)
  (arg9 : Memref sig .tc .vmem S1x128x2048 .i8) (harg9 : arg9.IsWhole) (arg10 : Memref sig .tc .vmem S1x32x4 .f32)
  (harg10 : arg10.IsWhole) (arg11 : Memref sig .tc .vmem S1x32x4 .f32) (harg11 : arg11.IsWhole)
  (arg12 : Memref sig .tc .vmem S1x32x8192 .bf16) (harg12 : arg12.IsWhole) (arg13 : Memref sig .tc .vmem S1x128x2048 .i8)
  (harg13 : arg13.IsWhole) (arg14 : Memref sig .tc .vmem S1x128x2048 .i8) (harg14 : arg14.IsWhole)
  (arg15 : Memref sig .tc .vmem S1x32x4 .f32) (harg15 : arg15.IsWhole) (arg16 : Memref sig .tc .vmem S1x32x4 .f32)
  (harg16 : arg16.IsWhole) (arg17 : Memref sig .tc .vmem S32x8192 .f32) (harg17 : arg17.IsWhole)
  (arg18 : Memref sig .tc .vmem S32x8192 .f32) (harg18 : arg18.IsWhole)
variable (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (X8 : BufTy.Contents (Elt F) arg8.view.ty) (X9 : BufTy.Contents (Elt F) arg9.view.ty)
  (X10 : BufTy.Contents (Elt F) arg10.view.ty) (X11 : BufTy.Contents (Elt F) arg11.view.ty)

/-- Each trip of the outer loop advances the rows done by one group. -/
theorem done_succ (k : Fin k0_t1_loop.trips) (f12 : BufTy.Contents (Elt F) arg12.view.ty) (f13 : BufTy.Contents (Elt F) arg13.view.ty)
    (f14 : BufTy.Contents (Elt F) arg14.view.ty) (f15 : BufTy.Contents (Elt F) arg15.view.ty) (f16 : BufTy.Contents (Elt F) arg16.view.ty)
    (f17 : BufTy.Contents (Elt F) arg17.view.ty) (f18 : BufTy.Contents (Elt F) arg18.view.ty) (h : Done arg12 arg13 arg14 arg15 arg16 (insOf arg6 arg7 arg8 arg9 arg10 arg11 (arg2.view.read (Elt F) X2) (arg3.view.read (Elt F) X3) (arg4.view.read (Elt F) X4) (arg5.view.read (Elt F) X5) X6 X7 X8 X9 X10 X11) k.val f12 f13 f14 f15 f16) :
    Done arg12 arg13 arg14 arg15 arg16 (insOf arg6 arg7 arg8 arg9 arg10 arg11 (arg2.view.read (Elt F) X2) (arg3.view.read (Elt F) X3) (arg4.view.read (Elt F) X4) (arg5.view.read (Elt F) X5) X6 X7 X8 X9 X10 X11) (k.val + 1) (arg12.view.writes (Elt F) f12 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).1) (arg13.view.writes (Elt F) f13 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.1)
      (arg14.view.writes (Elt F) f14 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.2.1) (arg15.view.writes (Elt F) f15 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.2.2.1) (arg16.view.writes (Elt F) f16 (tripAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 k f17 f18).2.2.2.2.1) := by
  obtain ⟨h1, h2, h3, h4, h5⟩ := h
  have hqm := view_table arg2 X2 (row_apply _) (row_apply _)
  have hqv := view_table arg3 X3 (row_apply _) (row_apply _)
  have hdm := view_table arg4 X4 (row_apply _) (row_apply _)
  have hdv := view_table arg5 X5 (row_apply _) (row_apply _)
  exact ⟨succ_w c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f17 f18 (arg2.view.read (Elt F) X2) (arg3.view.read (Elt F) X3) (arg4.view.read (Elt F) X4) (arg5.view.read (Elt F) X5) _ _ _ _ _ _ _ _ k hqm hqv f12 h1, succ_mc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f17 f18 (arg2.view.read (Elt F) X2) (arg3.view.read (Elt F) X3) (arg4.view.read (Elt F) X4) (arg5.view.read (Elt F) X5) _ _ _ _ _ _ _ _ k hqm hdm f13 h2, succ_vc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f17 f18 (arg2.view.read (Elt F) X2) (arg3.view.read (Elt F) X3) (arg4.view.read (Elt F) X4) (arg5.view.read (Elt F) X5) _ _ _ _ _ _ _ _ k hqv hdv f14 h3,
    succ_ma c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f17 f18 (arg2.view.read (Elt F) X2) (arg3.view.read (Elt F) X3) (arg4.view.read (Elt F) X4) (arg5.view.read (Elt F) X5) _ _ _ _ _ _ _ _ k hqm f15 h4, succ_va c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X7 X8 X9 X10 X11 f17 f18 (arg2.view.read (Elt F) X2) (arg3.view.read (Elt F) X3) (arg4.view.read (Elt F) X4) (arg5.view.read (Elt F) X5) _ _ _ _ _ _ _ _ k hqv f16 h5⟩

end Trip
variable (m : (ℓ : Loc nD τ sig) → Buf (Elt F) ℓ) (ρ : Dev nD → PrngReg)

/-- The operands of the block at point `t`. -/
def blk (c : Dev nD) (t : Fin cfg0.N) : Ins F :=
  blkIns (iblk m c 0 t) (iblk m c 1 t) (iblk m c 2 t) (iblk m c 3 t) (iblk m c 4 t) (iblk m c 5 t) (iblk m c 6 t) (iblk m c 7 t)
    (iblk m c 8 t) (iblk m c 9 t)

/-- The proof data of the one pipeline on core `c`: the arrays as the region finds them, each input block left in place,
the results at the step's values, the scratch buffers at any contents, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => wBlk (blk m c t)
    | ⟨11, _⟩ => cBlk (blk m c t).dm (mCell (blk m c t))
    | ⟨12, _⟩ => cBlk (blk m c t).dv (vCell (blk m c t))
    | ⟨13, _⟩ => aBlk (mCell (blk m c t))
    | ⟨14, _⟩ => aBlk (vCell (blk m c t))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem after_0 (c : Dev nD) (t : Fin cfg0.N) : (dats m 0 c).after 0 t = iblk m c 0 t := by dsimp only [dats]
theorem before_1 (c : Dev nD) (t : Fin cfg0.N) (d) : (dats m 0 c).before 1 t d = iblk m c 1 t :=
  before0_1_of m (dats m 0 c) (A_eq m c 1) (fun _ => by dsimp only [dats]) t d
theorem after_1 (c : Dev nD) (t : Fin cfg0.N) : (dats m 0 c).after 1 t = iblk m c 1 t := by dsimp only [dats]
theorem before_2 (c : Dev nD) (t : Fin cfg0.N) (d) : (dats m 0 c).before 2 t d = iblk m c 2 t :=
  before0_2_of m (dats m 0 c) (A_eq m c 2) (fun _ => by dsimp only [dats]) t d
theorem after_2 (c : Dev nD) (t : Fin cfg0.N) : (dats m 0 c).after 2 t = iblk m c 2 t := by dsimp only [dats]
theorem before_3 (c : Dev nD) (t : Fin cfg0.N) (d) : (dats m 0 c).before 3 t d = iblk m c 3 t :=
  before0_3_of m (dats m 0 c) (A_eq m c 3) (fun _ => by dsimp only [dats]) t d
theorem after_3 (c : Dev nD) (t : Fin cfg0.N) : (dats m 0 c).after 3 t = iblk m c 3 t := by dsimp only [dats]
theorem before_4 (c : Dev nD) (t : Fin cfg0.N) (d) : (dats m 0 c).before 4 t d = iblk m c 4 t :=
  before0_4_of m (dats m 0 c) (A_eq m c 4) (fun _ => by dsimp only [dats]) t d
theorem after_4 (c : Dev nD) (t : Fin cfg0.N) : (dats m 0 c).after 4 t = iblk m c 4 t := by dsimp only [dats]
theorem before_5 (c : Dev nD) (t : Fin cfg0.N) (d) : (dats m 0 c).before 5 t d = iblk m c 5 t :=
  before0_5_of m (dats m 0 c) (A_eq m c 5) (fun _ => by dsimp only [dats]) t d
theorem after_5 (c : Dev nD) (t : Fin cfg0.N) : (dats m 0 c).after 5 t = iblk m c 5 t := by dsimp only [dats]
theorem before_6 (c : Dev nD) (t : Fin cfg0.N) (d) : (dats m 0 c).before 6 t d = iblk m c 6 t :=
  before0_6_of m (dats m 0 c) (A_eq m c 6) (fun _ => by dsimp only [dats]) t d
theorem after_6 (c : Dev nD) (t : Fin cfg0.N) : (dats m 0 c).after 6 t = iblk m c 6 t := by dsimp only [dats]
theorem before_7 (c : Dev nD) (t : Fin cfg0.N) (d) : (dats m 0 c).before 7 t d = iblk m c 7 t :=
  before0_7_of m (dats m 0 c) (A_eq m c 7) (fun _ => by dsimp only [dats]) t d
theorem after_7 (c : Dev nD) (t : Fin cfg0.N) : (dats m 0 c).after 7 t = iblk m c 7 t := by dsimp only [dats]
theorem before_8 (c : Dev nD) (t : Fin cfg0.N) (d) : (dats m 0 c).before 8 t d = iblk m c 8 t :=
  before0_8_of m (dats m 0 c) (A_eq m c 8) (fun _ => by dsimp only [dats]) t d
theorem after_8 (c : Dev nD) (t : Fin cfg0.N) : (dats m 0 c).after 8 t = iblk m c 8 t := by dsimp only [dats]
theorem before_9 (c : Dev nD) (t : Fin cfg0.N) (d) : (dats m 0 c).before 9 t d = iblk m c 9 t :=
  before0_9_of m (dats m 0 c) (A_eq m c 9) (fun _ => by dsimp only [dats]) t d
theorem after_9 (c : Dev nD) (t : Fin cfg0.N) : (dats m 0 c).after 9 t = iblk m c 9 t := by dsimp only [dats]

theorem after_10 (c : Dev nD) (t : Fin cfg0.N) : (dats m 0 c).after 10 t = wBlk (blk m c t) := by dsimp only [dats]
theorem after_11 (c : Dev nD) (t : Fin cfg0.N) : (dats m 0 c).after 11 t = cBlk (blk m c t).dm (mCell (blk m c t)) := by dsimp only [dats]
theorem after_12 (c : Dev nD) (t : Fin cfg0.N) : (dats m 0 c).after 12 t = cBlk (blk m c t).dv (vCell (blk m c t)) := by dsimp only [dats]
theorem after_13 (c : Dev nD) (t : Fin cfg0.N) : (dats m 0 c).after 13 t = aBlk (mCell (blk m c t)) := by dsimp only [dats]
theorem after_14 (c : Dev nD) (t : Fin cfg0.N) : (dats m 0 c).after 14 t = aBlk (vCell (blk m c t)) := by dsimp only [dats]

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  unfold Pipeline.ΦA
  rw [scopedRest0_eq]
  simp only [before_0, after_0, before_1, after_1, before_2, after_2, before_3, after_3, before_4, after_4, before_5, after_5, before_6, after_6, before_7, after_7, before_8, after_8, before_9, after_9, after_10, after_11, after_12, after_13, after_14]
  unfold Dat.owesAt Pipeline.owesWithin
  rw [show (dats m 0 c).owed t.castSucc = 0 from rfl, show (dats m 0 c).owed t.succ = 0 from rfl]
  unfold owns
  iintro ⟨⟨⟨⟨%s17, HS17⟩, ⟨%s18, HS18⟩⟩, Hg⟩, HW, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩⟩
  iapply (wp_wand_r Idealize.ShloMosaic.frame (wpE (defs₀ (F := F)) Variants.none (c : Thread nD τ) none) Set.univ)
  isplitl [HS17 HS18 H0 H1 H2 H3 H4 H5 H6 H7 H8 H9 H10 H11 H12 H13 H14]
  · iapply (body_run c
        (grid0.coords t)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (win0_3.stage (cfg0.slots t 3)) (hstage0_3 ((cfg0.slots t 3).cast nbuf0_3))
        (win0_4.stage (cfg0.slots t 4)) (hstage0_4 ((cfg0.slots t 4).cast nbuf0_4))
        (win0_5.stage (cfg0.slots t 5)) (hstage0_5 ((cfg0.slots t 5).cast nbuf0_5))
        (win0_6.stage (cfg0.slots t 6)) (hstage0_6 ((cfg0.slots t 6).cast nbuf0_6))
        (win0_7.stage (cfg0.slots t 7)) (hstage0_7 ((cfg0.slots t 7).cast nbuf0_7))
        (win0_8.stage (cfg0.slots t 8)) (hstage0_8 ((cfg0.slots t 8).cast nbuf0_8))
        (win0_9.stage (cfg0.slots t 9)) (hstage0_9 ((cfg0.slots t 9).cast nbuf0_9))
        (win0_10.stage (cfg0.slots t 10)) (hstage0_10 ((cfg0.slots t 10).cast nbuf0_10))
        (win0_11.stage (cfg0.slots t 11)) (hstage0_11 ((cfg0.slots t 11).cast nbuf0_11))
        (win0_12.stage (cfg0.slots t 12)) (hstage0_12 ((cfg0.slots t 12).cast nbuf0_12))
        (win0_13.stage (cfg0.slots t 13)) (hstage0_13 ((cfg0.slots t 13).cast nbuf0_13))
        (win0_14.stage (cfg0.slots t 14)) (hstage0_14 ((cfg0.slots t 14).cast nbuf0_14))
        (Memref.whole cc0_scratch0) (Memref.isWhole_whole _) (Memref.whole cc0_scratch1) (Memref.isWhole_whole _)
        f0 f1 f2 f3 f4 f5 f6 f7 f8 f9
        (Done (win0_10.stage (cfg0.slots t 10)) (win0_11.stage (cfg0.slots t 11)) (win0_12.stage (cfg0.slots t 12)) (win0_13.stage (cfg0.slots t 13)) (win0_14.stage (cfg0.slots t 14))
          (insOf (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) ((win0_0.stage (cfg0.slots t 0)).view.read (Elt F) f0) ((win0_1.stage (cfg0.slots t 1)).view.read (Elt F) f1) ((win0_2.stage (cfg0.slots t 2)).view.read (Elt F) f2) ((win0_3.stage (cfg0.slots t 3)).view.read (Elt F) f3) f4 f5 f6 f7 f8 f9))
        (fun _ _ _ _ _ => ⟨fun _ h => absurd h (Nat.not_lt_zero _), fun _ h => absurd h (Nat.not_lt_zero _), fun _ h => absurd h (Nat.not_lt_zero _), fun _ h => absurd h (Nat.not_lt_zero _), fun _ h => absurd h (Nat.not_lt_zero _)⟩)
        (fun k f12 f13 f14 f15 f16 f17 f18 h => done_succ c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))
          (Memref.whole cc0_scratch0) (Memref.isWhole_whole _) (Memref.whole cc0_scratch1) (Memref.isWhole_whole _)
          f0 f1 f2 f3 f4 f5 f6 f7 f8 f9 k f12 f13 f14 f15 f16 f17 f18 h) f10 f11 f12 f13 f14 s17 s18)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS17]
    · rw [whole_pt]; iexact HS17
    · rw [whole_pt]; iexact HS18
  · iintro %_ ⟨H0, H1, H2, H3, %g12, %g13, %g14, %g15, %g16, %g17, %g18, ⟨H4, H5, H6, H7, H8, H9, H10, H11, H12, H13, H14, HS17, HS18⟩, %hD⟩
    rw [trips1, show insOf (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) ((win0_0.stage (cfg0.slots t 0)).view.read (Elt F) f0) ((win0_1.stage (cfg0.slots t 1)).view.read (Elt F) f1) ((win0_2.stage (cfg0.slots t 2)).view.read (Elt F) f2) ((win0_3.stage (cfg0.slots t 3)).view.read (Elt F) f3) f4 f5 f6 f7 f8 f9 = blk m c t from by
      unfold blk; rw [← hf0, ← hf1, ← hf2, ← hf3, ← hf4, ← hf5, ← hf6, ← hf7, ← hf8, ← hf9]] at hD
    obtain ⟨hD1, hD2, hD3, hD4, hD5⟩ := hD
    isplitl [HS17 HS18 Hg]
    · isplitl [HS17 HS18]
      · isplitl [HS17]
        · iexists g17; iapply (whole_out c cc0_scratch0 g17); iexact HS17
        · iexists g18; iapply (whole_out c cc0_scratch1 g18); iexact HS18
      iexact Hg
    isplitl [HW]; · iexact HW
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists _; isplitr; swap; · iexact H10
      ipureintro; exact funext fun y => hD1 y (show (y 1).val < 32 from (y 1).isLt)
    isplitl [H11]
    · iexists _; isplitr; swap; · iexact H11
      ipureintro; exact funext fun y => hD2 y (show (y 1).val < 128 from (y 1).isLt)
    isplitl [H12]
    · iexists _; isplitr; swap; · iexact H12
      ipureintro; exact funext fun y => hD3 y (show (y 1).val < 128 from (y 1).isLt)
    isplitl [H13]
    · iexists _; isplitr; swap; · iexact H13
      ipureintro; exact funext fun y => hD4 y (show (y 1).val < 32 from (y 1).isLt)
    iexists _; isplitr; swap; · iexact H14
    ipureintro; exact funext fun y => hD5 y (show (y 1).val < 32 from (y 1).isLt)

theorem body_obligation (c : Dev nD) :
    BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends with each result array at its blocks, and every other buffer as the host operations leave it. -/
theorem run_value : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)
    (Q' := _) (hQ' := fun _ h => h)

end Cert.KernelIdeal.Hand

end
-- ==== Proof.KI.Arrays.lean ====
module

public import proofs.«01_k».proof.Proof.KI.Whole
public import proofs.«01_k».proof.Proof.KI.Value

/-! The five result arrays at the end of every execution, as the step of the optimiser over the whole arrays. -/

@[expose] public section

set_option maxRecDepth 16384

noncomputable section

namespace Cert.KernelIdeal.Hand

open Cert.KernelIdeal Cert.KernelIdeal.Gen
open Idealize.ShloMosaic Idealize.ShloMosaic.ValueIdx Idealize.SL.Sem Idealize.ShloMosaic.TcCoe Idealize.ShloMosaic.Tactic
open Idealize.ShloMosaic.Pipeline (Dat)

variable {F : FTy → Type} [FloatOps F]

variable (m : (ℓ : Loc nD τ sig) → Buf (Elt F) ℓ) (ρ : Dev nD → PrngReg)

/-- The operands of batch `b` as launched. -/
def wh (c : Dev nD) (b : Fin 3) : Ins F :=
  whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b

/-! ### A block's operands are its batch's, at the block's rows -/

section Fields

variable (c : Dev nD) (t : Fin cfg0.N)

theorem blk_qm (n : ℕ) (hn : n < 256) : (blk m c t).qm n = (wh m c (bat t)).qm n := by
  show tab (iblk m c 0 t) n = _
  rw [iblk_0, V_main_v0]
  exact tab_reshape _ _ n hn

theorem blk_qv (n : ℕ) (hn : n < 256) : (blk m c t).qv n = (wh m c (bat t)).qv n := by
  show tab (iblk m c 1 t) n = _
  rw [iblk_1, V_main_v1]
  exact tab_reshape _ _ n hn

theorem blk_dm (n : ℕ) (hn : n < 256) : (blk m c t).dm n = (wh m c (bat t)).dm n := by
  show tab (iblk m c 2 t) n = _
  rw [iblk_2, V_main_v8]
  exact (tab_reshape _ _ n hn).trans (mids_host _ n hn)

theorem blk_dv (n : ℕ) (hn : n < 256) : (blk m c t).dv n = (wh m c (bat t)).dv n := by
  show tab (iblk m c 3 t) n = _
  rw [iblk_3, V_main_v15]
  exact (tab_reshape _ _ n hn).trans (mids_host _ n hn)

theorem blk_w (r j : ℕ) (hr : r < 32) : (blk m c t).w r j = (wh m c (bat t)).w (32 * (t.val % 20) + r) j := by
  show (iblk m c 4 t : Vec F S1x32x8192 .bf16) (ix3 (0 : Fin 1) (Fin.ofNat 32 r) (Fin.ofNat 8192 j)) = _
  rw [iblk_4, V_main_arg0, show (Fin.ofNat 32 r).val = r from Nat.mod_eq_of_lt hr]
  rfl

theorem blk_g (r j : ℕ) (hr : r < 32) : (blk m c t).g r j = (wh m c (bat t)).g (32 * (t.val % 20) + r) j := by
  show (iblk m c 5 t : Vec F S1x32x8192 .bf16) (ix3 (0 : Fin 1) (Fin.ofNat 32 r) (Fin.ofNat 8192 j)) = _
  rw [iblk_5, V_main_arg1, show (Fin.ofNat 32 r).val = r from Nat.mod_eq_of_lt hr]
  rfl

theorem blk_mc (r j : ℕ) (hr : r < 128) : (blk m c t).mc r j = (wh m c (bat t)).mc (128 * (t.val % 20) + r) j := by
  show (iblk m c 6 t : Vec F S1x128x2048 .i8) (ix3 (0 : Fin 1) (Fin.ofNat 128 r) (Fin.ofNat 2048 j)) = _
  rw [iblk_6, V_main_arg2, show (Fin.ofNat 128 r).val = r from Nat.mod_eq_of_lt hr]
  rfl

theorem blk_vc (r j : ℕ) (hr : r < 128) : (blk m c t).vc r j = (wh m c (bat t)).vc (128 * (t.val % 20) + r) j := by
  show (iblk m c 7 t : Vec F S1x128x2048 .i8) (ix3 (0 : Fin 1) (Fin.ofNat 128 r) (Fin.ofNat 2048 j)) = _
  rw [iblk_7, V_main_arg4, show (Fin.ofNat 128 r).val = r from Nat.mod_eq_of_lt hr]
  rfl

theorem blk_ma (r q : ℕ) (hr : r < 32) (hq : q < 4) : (blk m c t).ma r q = (wh m c (bat t)).ma (32 * (t.val % 20) + r) q := by
  show (iblk m c 8 t : Vec F S1x32x4 .f32) (ix3 (0 : Fin 1) (Fin.ofNat 32 r) (Fin.ofNat 4 q)) = _
  rw [iblk_8, V_main_v16, show (Fin.ofNat 32 r).val = r from Nat.mod_eq_of_lt hr]
  refine shapeCast_apply _ _ _ (ix2 (bat t) (Fin.ofNat 2560 (4 * (32 * (t.val % 20) + r) + q))) ?_
  rw [Shape.rowMajor_val_two, Shape.rowMajor_val_three]
  show (bat t).val * 2560 + (4 * (32 * (t.val % 20) + r) + q) % 2560 = ((bat t).val * 640 + (32 * (t.val % 20) + r) % 640) * 4 + q % 4
  omega

theorem blk_va (r q : ℕ) (hr : r < 32) (hq : q < 4) : (blk m c t).va r q = (wh m c (bat t)).va (32 * (t.val % 20) + r) q := by
  show (iblk m c 9 t : Vec F S1x32x4 .f32) (ix3 (0 : Fin 1) (Fin.ofNat 32 r) (Fin.ofNat 4 q)) = _
  rw [iblk_9, V_main_v17, show (Fin.ofNat 32 r).val = r from Nat.mod_eq_of_lt hr]
  refine shapeCast_apply _ _ _ (ix2 (bat t) (Fin.ofNat 2560 (4 * (32 * (t.val % 20) + r) + q))) ?_
  rw [Shape.rowMajor_val_two, Shape.rowMajor_val_three]
  show (bat t).val * 2560 + (4 * (32 * (t.val % 20) + r) + q) % 2560 = ((bat t).val * 640 + (32 * (t.val % 20) + r) % 640) * 4 + q % 4
  omega

theorem blk_mCell (r q l : ℕ) (hr : r < 32) (hq : q < 4) :
    mCell (blk m c t) r q l = mCell (wh m c (bat t)) (32 * (t.val % 20) + r) q l := by
  unfold mCell
  rw [blk_mc m c t _ _ (by omega), blk_qm m c t _ (BitVec.isLt _), blk_ma m c t _ _ hr hq, blk_g m c t _ _ hr,
    show 128 * (t.val % 20) + (4 * r + q) = 4 * (32 * (t.val % 20) + r) + q by omega]

theorem blk_vCell (r q l : ℕ) (hr : r < 32) (hq : q < 4) :
    vCell (blk m c t) r q l = vCell (wh m c (bat t)) (32 * (t.val % 20) + r) q l := by
  unfold vCell
  rw [blk_vc m c t _ _ (by omega), blk_qv m c t _ (BitVec.isLt _), blk_va m c t _ _ hr hq, blk_g m c t _ _ hr,
    show 128 * (t.val % 20) + (4 * r + q) = 4 * (32 * (t.val % 20) + r) + q by omega]

theorem blk_wCell (r q l : ℕ) (hr : r < 32) (hq : q < 4) :
    wCell (blk m c t) r q l = wCell (wh m c (bat t)) (32 * (t.val % 20) + r) q l := by
  unfold wCell
  rw [blk_mCell m c t r q l hr hq, blk_vCell m c t r q l hr hq, blk_w m c t _ _ hr]

end Fields

/-- The scale of a quarter depends on the moments of the sixteen rows about it. -/
theorem amax_congr (f g : ℕ → ℕ → ℕ → F .f32) (r s q : ℕ) (hm : r % 16 = s % 16)
    (h : ∀ a l, a < 16 → f (16 * (r / 16) + a) q l = g (16 * (s / 16) + a) q l) : amax f r q = amax g s q := by
  have e : (fun x : S16x128.Idx => runMax (fun t => f (16 * (r / 16) + (x 0).val) q (128 * t + (x 1).val)) 16)
      = fun x : S16x128.Idx => runMax (fun t => g (16 * (s / 16) + (x 0).val) q (128 * t + (x 1).val)) 16 :=
    funext fun x => congrArg (fun u => runMax u 16) (funext fun t => h _ _ (x 0).isLt)
  unfold amax
  rw [e]
  exact congrArg _ (congrArg (fun a => ix2 a (0 : Fin 1)) (Fin.ext hm))

theorem blk_amax (f g : ℕ → ℕ → ℕ → F .f32) (J r q : ℕ) (hr : r < 32) (h : ∀ a l, a < 32 → f a q l = g (32 * J + a) q l) :
    amax f r q = amax g (32 * J + r) q :=
  amax_congr f g r _ q (by omega) fun a l ha => (h _ l (by omega)).trans (congrArg (fun u => g u q l) (by omega))

/-- A code depends on the midpoints before the last place. -/
theorem enc_congr (T U : ℕ → F .f32) (y : F .f32) (h : ∀ n, n < 256 → T n = U n) : enc T y = enc U y := by
  have e : ∀ s c, c + (s - 1) < 256 → step T y s c = step U y s c := fun s c hc => by unfold step; rw [h _ hc]
  have b := step_le U y
  unfold enc
  have h1 := b 128 0; have h2 := b 64 (step U y 128 0); have h3 := b 32 (step U y 64 (step U y 128 0))
  have h4 := b 16 (step U y 32 (step U y 64 (step U y 128 0))); have h5 := b 8 (step U y 16 (step U y 32 (step U y 64 (step U y 128 0))))
  have h6 := b 4 (step U y 8 (step U y 16 (step U y 32 (step U y 64 (step U y 128 0)))))
  have h7 := b 2 (step U y 4 (step U y 8 (step U y 16 (step U y 32 (step U y 64 (step U y 128 0))))))
  rw [e 128 0 (by omega), e 64 _ (by omega), e 32 _ (by omega), e 16 _ (by omega), e 8 _ (by omega), e 4 _ (by omega), e 2 _ (by omega),
    e 1 _ (by omega)]

theorem blk_codeCell (T U : ℕ → F .f32) (f g : ℕ → ℕ → ℕ → F .f32) (J r q l : ℕ) (hr : r < 32)
    (h : ∀ a l, a < 32 → f a q l = g (32 * J + a) q l) (hT : ∀ n, n < 256 → T n = U n) :
    codeCell T f r q l = codeCell U g (32 * J + r) q l := by
  unfold codeCell
  rw [blk_amax f g J r q hr h, h r l hr]
  exact enc_congr T U _ hT

/-! ### The arrays -/

/-- The new weights. -/
def outW (c : Dev nD) : Vec F S3x640x8192 .bf16 := fun i => wCell (wh m c (i 0)) (i 1).val ((i 2).val / 2048) ((i 2).val % 2048)
/-- The new codes of the first moments. -/
def outMC (c : Dev nD) : Vec F S3x2560x2048 .i8 :=
  fun i => BitVec.ofNat 8 (codeCell (wh m c (i 0)).dm (mCell (wh m c (i 0))) ((i 1).val / 4) ((i 1).val % 4) (i 2).val)
/-- The new codes of the second moments. -/
def outVC (c : Dev nD) : Vec F S3x2560x2048 .i8 :=
  fun i => BitVec.ofNat 8 (codeCell (wh m c (i 0)).dv (vCell (wh m c (i 0))) ((i 1).val / 4) ((i 1).val % 4) (i 2).val)
/-- The new scales of the first moments, by row and quarter. -/
def outMA (c : Dev nD) : Vec F S3x640x4 .f32 := fun i => amax (mCell (wh m c (i 0))) (i 1).val (i 2).val
/-- The new scales of the second moments, by row and quarter. -/
def outVA (c : Dev nD) : Vec F S3x640x4 .f32 := fun i => amax (vCell (wh m c (i 0))) (i 1).val (i 2).val

theorem emb_10 (t : Fin cfg0.N) (r : Fin 32) (j : Fin 8192) :
    (win0_10.rect t).emb (ix3 (0 : Fin 1) r j : S1x32x8192.Idx) = (ix3 (bat t) (Fin.ofNat 640 (32 * (t.val % 20) + r.val)) j : (main_v18_0 : Ref sig .tc).ty.shape.Idx) := by
  funext a
  apply Fin.ext
  fin_cases a
  · show win0_10.index t 0 * 1 + 1 * 0 = t.val / 20; rw [index_10]; show t.val / 20 * 1 + 1 * 0 = _; omega
  · show win0_10.index t 1 * 32 + 1 * r.val = (32 * (t.val % 20) + r.val) % 640
    rw [index_10]; show t.val % 20 * 32 + 1 * r.val = _; have := r.isLt; omega
  · show win0_10.index t 2 * 8192 + 1 * j.val = j.val; rw [index_10]; show 0 * 8192 + 1 * j.val = _; omega

theorem flushed_10 (c : Dev nD) (t : Fin cfg0.N) :
    (dats m 0 c).flushed 10 t = ((cfg0.win 10).blk t).view.read (Elt F) (outW m c) := by
  show (cfg0.win 10).cut (grid0.coords t) ((dats m 0 c).after 10 t) = _
  rw [after_10]
  funext y
  rw [View.read_apply]
  obtain ⟨r, j, rfl⟩ : ∃ (r : Fin 32) (j : Fin 8192), y = (ix3 (0 : Fin 1) r j : S1x32x8192.Idx) :=
    ⟨y 1, y 2, by funext d; fin_cases d; exacts [Subsingleton.elim (α := Fin 1) _ _, rfl, rfl]⟩
  refine Eq.trans ?_ (congrArg (outW m c) (emb_10 t r j)).symm
  have hr := r.isLt; have hj := j.isLt; have e : (32 * (t.val % 20) + r.val) % 640 = 32 * (t.val % 20) + r.val := by omega
  show wCell (blk m c t) r.val (j.val / 2048) (j.val % 2048) = wCell (wh m c (bat t)) ((32 * (t.val % 20) + r.val) % 640) (j.val / 2048) (j.val % 2048)
  rw [e]
  exact blk_wCell m c t _ _ _ hr (by omega)

theorem final_10 (c : Dev nD) : (dats m 0 c).arrAt 10 cfg0.N = outW m c :=
  (dats m 0 c).arrAt_eq_of_cover 10 (outW m c) (fun t _ => flushed_10 m c t) fun i => by
    have h0 : (i 0 : Nat) < 3 := (i 0).isLt
    have h1 : (i 1 : Nat) < 640 := (i 1).isLt
    have h2 : (i 2 : Nat) < 8192 := (i 2).isLt
    have ht : 20 * (i 0 : Nat) + (i 1 : Nat) / 32 < cfg0.N := by rw [show cfg0.N = 60 from N_0]; omega
    refine ⟨⟨20 * (i 0 : Nat) + (i 1 : Nat) / 32, ht⟩, flush0_10 _, ?_⟩
    generalize hT : (⟨20 * (i 0 : Nat) + (i 1 : Nat) / 32, ht⟩ : Fin cfg0.N) = t
    have hv : t.val = 20 * (i 0 : Nat) + (i 1 : Nat) / 32 := by rw [← hT]
    show i ∈ ((View.whole main_v18_0).slice (win0_10.rect t)).set
    rw [View.set_slice_whole, Rect.mem_set_unit]
    intro a
    fin_cases a
    · show win0_10.index t 0 * 1 ≤ (i 0 : Nat) ∧ (i 0 : Nat) < win0_10.index t 0 * 1 + 1
      rw [index_10]; show t.val / 20 * 1 ≤ (i 0 : Nat) ∧ (i 0 : Nat) < t.val / 20 * 1 + 1; omega
    · show win0_10.index t 1 * 32 ≤ (i 1 : Nat) ∧ (i 1 : Nat) < win0_10.index t 1 * 32 + 32
      rw [index_10]; show t.val % 20 * 32 ≤ (i 1 : Nat) ∧ (i 1 : Nat) < t.val % 20 * 32 + 32; omega
    · show win0_10.index t 2 * 8192 ≤ (i 2 : Nat) ∧ (i 2 : Nat) < win0_10.index t 2 * 8192 + 8192
      rw [index_10]; show 0 * 8192 ≤ (i 2 : Nat) ∧ (i 2 : Nat) < 0 * 8192 + 8192; omega

theorem emb_11 (t : Fin cfg0.N) (r : Fin 128) (j : Fin 2048) :
    (win0_11.rect t).emb (ix3 (0 : Fin 1) r j : S1x128x2048.Idx) = (ix3 (bat t) (Fin.ofNat 2560 (128 * (t.val % 20) + r.val)) j : (main_v18_1 : Ref sig .tc).ty.shape.Idx) := by
  funext a
  apply Fin.ext
  fin_cases a
  · show win0_11.index t 0 * 1 + 1 * 0 = t.val / 20; rw [index_11]; show t.val / 20 * 1 + 1 * 0 = _; omega
  · show win0_11.index t 1 * 128 + 1 * r.val = (128 * (t.val % 20) + r.val) % 2560
    rw [index_11]; show t.val % 20 * 128 + 1 * r.val = _; have := r.isLt; omega
  · show win0_11.index t 2 * 2048 + 1 * j.val = j.val; rw [index_11]; show 0 * 2048 + 1 * j.val = _; omega

theorem flushed_11 (c : Dev nD) (t : Fin cfg0.N) :
    (dats m 0 c).flushed 11 t = ((cfg0.win 11).blk t).view.read (Elt F) (outMC m c) := by
  show (cfg0.win 11).cut (grid0.coords t) ((dats m 0 c).after 11 t) = _
  rw [after_11]
  funext y
  rw [View.read_apply]
  obtain ⟨r, j, rfl⟩ : ∃ (r : Fin 128) (j : Fin 2048), y = (ix3 (0 : Fin 1) r j : S1x128x2048.Idx) :=
    ⟨y 1, y 2, by funext d; fin_cases d; exacts [Subsingleton.elim (α := Fin 1) _ _, rfl, rfl]⟩
  refine Eq.trans ?_ (congrArg (outMC m c) (emb_11 t r j)).symm
  have hr := r.isLt; have hj := j.isLt; have e : (128 * (t.val % 20) + r.val) % 2560 = 128 * (t.val % 20) + r.val := by omega
  show BitVec.ofNat 8 (codeCell (blk m c t).dm (mCell (blk m c t)) (r.val / 4) (r.val % 4) j.val)
    = BitVec.ofNat 8 (codeCell (wh m c (bat t)).dm (mCell (wh m c (bat t))) (((128 * (t.val % 20) + r.val) % 2560) / 4) (((128 * (t.val % 20) + r.val) % 2560) % 4) j.val)
  rw [e, show (128 * (t.val % 20) + r.val) / 4 = 32 * (t.val % 20) + r.val / 4 by omega, show (128 * (t.val % 20) + r.val) % 4 = r.val % 4 by omega]
  exact congrArg (BitVec.ofNat 8) (blk_codeCell _ _ _ _ _ _ _ _ (by omega) (fun a l ha => blk_mCell m c t _ _ _ ha (by omega))
    (blk_dm m c t))

theorem final_11 (c : Dev nD) : (dats m 0 c).arrAt 11 cfg0.N = outMC m c :=
  (dats m 0 c).arrAt_eq_of_cover 11 (outMC m c) (fun t _ => flushed_11 m c t) fun i => by
    have h0 : (i 0 : Nat) < 3 := (i 0).isLt
    have h1 : (i 1 : Nat) < 2560 := (i 1).isLt
    have h2 : (i 2 : Nat) < 2048 := (i 2).isLt
    have ht : 20 * (i 0 : Nat) + (i 1 : Nat) / 128 < cfg0.N := by rw [show cfg0.N = 60 from N_0]; omega
    refine ⟨⟨20 * (i 0 : Nat) + (i 1 : Nat) / 128, ht⟩, flush0_11 _, ?_⟩
    generalize hT : (⟨20 * (i 0 : Nat) + (i 1 : Nat) / 128, ht⟩ : Fin cfg0.N) = t
    have hv : t.val = 20 * (i 0 : Nat) + (i 1 : Nat) / 128 := by rw [← hT]
    show i ∈ ((View.whole main_v18_1).slice (win0_11.rect t)).set
    rw [View.set_slice_whole, Rect.mem_set_unit]
    intro a
    fin_cases a
    · show win0_11.index t 0 * 1 ≤ (i 0 : Nat) ∧ (i 0 : Nat) < win0_11.index t 0 * 1 + 1
      rw [index_11]; show t.val / 20 * 1 ≤ (i 0 : Nat) ∧ (i 0 : Nat) < t.val / 20 * 1 + 1; omega
    · show win0_11.index t 1 * 128 ≤ (i 1 : Nat) ∧ (i 1 : Nat) < win0_11.index t 1 * 128 + 128
      rw [index_11]; show t.val % 20 * 128 ≤ (i 1 : Nat) ∧ (i 1 : Nat) < t.val % 20 * 128 + 128; omega
    · show win0_11.index t 2 * 2048 ≤ (i 2 : Nat) ∧ (i 2 : Nat) < win0_11.index t 2 * 2048 + 2048
      rw [index_11]; show 0 * 2048 ≤ (i 2 : Nat) ∧ (i 2 : Nat) < 0 * 2048 + 2048; omega

theorem emb_12 (t : Fin cfg0.N) (r : Fin 128) (j : Fin 2048) :
    (win0_12.rect t).emb (ix3 (0 : Fin 1) r j : S1x128x2048.Idx) = (ix3 (bat t) (Fin.ofNat 2560 (128 * (t.val % 20) + r.val)) j : (main_v18_2 : Ref sig .tc).ty.shape.Idx) := by
  funext a
  apply Fin.ext
  fin_cases a
  · show win0_12.index t 0 * 1 + 1 * 0 = t.val / 20; rw [index_12]; show t.val / 20 * 1 + 1 * 0 = _; omega
  · show win0_12.index t 1 * 128 + 1 * r.val = (128 * (t.val % 20) + r.val) % 2560
    rw [index_12]; show t.val % 20 * 128 + 1 * r.val = _; have := r.isLt; omega
  · show win0_12.index t 2 * 2048 + 1 * j.val = j.val; rw [index_12]; show 0 * 2048 + 1 * j.val = _; omega

theorem flushed_12 (c : Dev nD) (t : Fin cfg0.N) :
    (dats m 0 c).flushed 12 t = ((cfg0.win 12).blk t).view.read (Elt F) (outVC m c) := by
  show (cfg0.win 12).cut (grid0.coords t) ((dats m 0 c).after 12 t) = _
  rw [after_12]
  funext y
  rw [View.read_apply]
  obtain ⟨r, j, rfl⟩ : ∃ (r : Fin 128) (j : Fin 2048), y = (ix3 (0 : Fin 1) r j : S1x128x2048.Idx) :=
    ⟨y 1, y 2, by funext d; fin_cases d; exacts [Subsingleton.elim (α := Fin 1) _ _, rfl, rfl]⟩
  refine Eq.trans ?_ (congrArg (outVC m c) (emb_12 t r j)).symm
  have hr := r.isLt; have hj := j.isLt; have e : (128 * (t.val % 20) + r.val) % 2560 = 128 * (t.val % 20) + r.val := by omega
  show BitVec.ofNat 8 (codeCell (blk m c t).dv (vCell (blk m c t)) (r.val / 4) (r.val % 4) j.val)
    = BitVec.ofNat 8 (codeCell (wh m c (bat t)).dv (vCell (wh m c (bat t))) (((128 * (t.val % 20) + r.val) % 2560) / 4) (((128 * (t.val % 20) + r.val) % 2560) % 4) j.val)
  rw [e, show (128 * (t.val % 20) + r.val) / 4 = 32 * (t.val % 20) + r.val / 4 by omega, show (128 * (t.val % 20) + r.val) % 4 = r.val % 4 by omega]
  exact congrArg (BitVec.ofNat 8) (blk_codeCell _ _ _ _ _ _ _ _ (by omega) (fun a l ha => blk_vCell m c t _ _ _ ha (by omega))
    (blk_dv m c t))

theorem final_12 (c : Dev nD) : (dats m 0 c).arrAt 12 cfg0.N = outVC m c :=
  (dats m 0 c).arrAt_eq_of_cover 12 (outVC m c) (fun t _ => flushed_12 m c t) fun i => by
    have h0 : (i 0 : Nat) < 3 := (i 0).isLt
    have h1 : (i 1 : Nat) < 2560 := (i 1).isLt
    have h2 : (i 2 : Nat) < 2048 := (i 2).isLt
    have ht : 20 * (i 0 : Nat) + (i 1 : Nat) / 128 < cfg0.N := by rw [show cfg0.N = 60 from N_0]; omega
    refine ⟨⟨20 * (i 0 : Nat) + (i 1 : Nat) / 128, ht⟩, flush0_12 _, ?_⟩
    generalize hT : (⟨20 * (i 0 : Nat) + (i 1 : Nat) / 128, ht⟩ : Fin cfg0.N) = t
    have hv : t.val = 20 * (i 0 : Nat) + (i 1 : Nat) / 128 := by rw [← hT]
    show i ∈ ((View.whole main_v18_2).slice (win0_12.rect t)).set
    rw [View.set_slice_whole, Rect.mem_set_unit]
    intro a
    fin_cases a
    · show win0_12.index t 0 * 1 ≤ (i 0 : Nat) ∧ (i 0 : Nat) < win0_12.index t 0 * 1 + 1
      rw [index_12]; show t.val / 20 * 1 ≤ (i 0 : Nat) ∧ (i 0 : Nat) < t.val / 20 * 1 + 1; omega
    · show win0_12.index t 1 * 128 ≤ (i 1 : Nat) ∧ (i 1 : Nat) < win0_12.index t 1 * 128 + 128
      rw [index_12]; show t.val % 20 * 128 ≤ (i 1 : Nat) ∧ (i 1 : Nat) < t.val % 20 * 128 + 128; omega
    · show win0_12.index t 2 * 2048 ≤ (i 2 : Nat) ∧ (i 2 : Nat) < win0_12.index t 2 * 2048 + 2048
      rw [index_12]; show 0 * 2048 ≤ (i 2 : Nat) ∧ (i 2 : Nat) < 0 * 2048 + 2048; omega

theorem emb_13 (t : Fin cfg0.N) (r : Fin 32) (j : Fin 4) :
    (win0_13.rect t).emb (ix3 (0 : Fin 1) r j : S1x32x4.Idx) = (ix3 (bat t) (Fin.ofNat 640 (32 * (t.val % 20) + r.val)) j : (main_v18_3 : Ref sig .tc).ty.shape.Idx) := by
  funext a
  apply Fin.ext
  fin_cases a
  · show win0_13.index t 0 * 1 + 1 * 0 = t.val / 20; rw [index_13]; show t.val / 20 * 1 + 1 * 0 = _; omega
  · show win0_13.index t 1 * 32 + 1 * r.val = (32 * (t.val % 20) + r.val) % 640
    rw [index_13]; show t.val % 20 * 32 + 1 * r.val = _; have := r.isLt; omega
  · show win0_13.index t 2 * 4 + 1 * j.val = j.val; rw [index_13]; show 0 * 4 + 1 * j.val = _; omega

theorem flushed_13 (c : Dev nD) (t : Fin cfg0.N) :
    (dats m 0 c).flushed 13 t = ((cfg0.win 13).blk t).view.read (Elt F) (outMA m c) := by
  show (cfg0.win 13).cut (grid0.coords t) ((dats m 0 c).after 13 t) = _
  rw [after_13]
  funext y
  rw [View.read_apply]
  obtain ⟨r, j, rfl⟩ : ∃ (r : Fin 32) (j : Fin 4), y = (ix3 (0 : Fin 1) r j : S1x32x4.Idx) :=
    ⟨y 1, y 2, by funext d; fin_cases d; exacts [Subsingleton.elim (α := Fin 1) _ _, rfl, rfl]⟩
  refine Eq.trans ?_ (congrArg (outMA m c) (emb_13 t r j)).symm
  have hr := r.isLt; have hj := j.isLt; have e : (32 * (t.val % 20) + r.val) % 640 = 32 * (t.val % 20) + r.val := by omega
  show amax (mCell (blk m c t)) r.val j.val = amax (mCell (wh m c (bat t))) ((32 * (t.val % 20) + r.val) % 640) j.val
  rw [e]
  exact blk_amax _ _ _ _ _ hr fun a l ha => blk_mCell m c t _ _ _ ha hj

theorem final_13 (c : Dev nD) : (dats m 0 c).arrAt 13 cfg0.N = outMA m c :=
  (dats m 0 c).arrAt_eq_of_cover 13 (outMA m c) (fun t _ => flushed_13 m c t) fun i => by
    have h0 : (i 0 : Nat) < 3 := (i 0).isLt
    have h1 : (i 1 : Nat) < 640 := (i 1).isLt
    have h2 : (i 2 : Nat) < 4 := (i 2).isLt
    have ht : 20 * (i 0 : Nat) + (i 1 : Nat) / 32 < cfg0.N := by rw [show cfg0.N = 60 from N_0]; omega
    refine ⟨⟨20 * (i 0 : Nat) + (i 1 : Nat) / 32, ht⟩, flush0_13 _, ?_⟩
    generalize hT : (⟨20 * (i 0 : Nat) + (i 1 : Nat) / 32, ht⟩ : Fin cfg0.N) = t
    have hv : t.val = 20 * (i 0 : Nat) + (i 1 : Nat) / 32 := by rw [← hT]
    show i ∈ ((View.whole main_v18_3).slice (win0_13.rect t)).set
    rw [View.set_slice_whole, Rect.mem_set_unit]
    intro a
    fin_cases a
    · show win0_13.index t 0 * 1 ≤ (i 0 : Nat) ∧ (i 0 : Nat) < win0_13.index t 0 * 1 + 1
      rw [index_13]; show t.val / 20 * 1 ≤ (i 0 : Nat) ∧ (i 0 : Nat) < t.val / 20 * 1 + 1; omega
    · show win0_13.index t 1 * 32 ≤ (i 1 : Nat) ∧ (i 1 : Nat) < win0_13.index t 1 * 32 + 32
      rw [index_13]; show t.val % 20 * 32 ≤ (i 1 : Nat) ∧ (i 1 : Nat) < t.val % 20 * 32 + 32; omega
    · show win0_13.index t 2 * 4 ≤ (i 2 : Nat) ∧ (i 2 : Nat) < win0_13.index t 2 * 4 + 4
      rw [index_13]; show 0 * 4 ≤ (i 2 : Nat) ∧ (i 2 : Nat) < 0 * 4 + 4; omega

theorem emb_14 (t : Fin cfg0.N) (r : Fin 32) (j : Fin 4) :
    (win0_14.rect t).emb (ix3 (0 : Fin 1) r j : S1x32x4.Idx) = (ix3 (bat t) (Fin.ofNat 640 (32 * (t.val % 20) + r.val)) j : (main_v18_4 : Ref sig .tc).ty.shape.Idx) := by
  funext a
  apply Fin.ext
  fin_cases a
  · show win0_14.index t 0 * 1 + 1 * 0 = t.val / 20; rw [index_14]; show t.val / 20 * 1 + 1 * 0 = _; omega
  · show win0_14.index t 1 * 32 + 1 * r.val = (32 * (t.val % 20) + r.val) % 640
    rw [index_14]; show t.val % 20 * 32 + 1 * r.val = _; have := r.isLt; omega
  · show win0_14.index t 2 * 4 + 1 * j.val = j.val; rw [index_14]; show 0 * 4 + 1 * j.val = _; omega

theorem flushed_14 (c : Dev nD) (t : Fin cfg0.N) :
    (dats m 0 c).flushed 14 t = ((cfg0.win 14).blk t).view.read (Elt F) (outVA m c) := by
  show (cfg0.win 14).cut (grid0.coords t) ((dats m 0 c).after 14 t) = _
  rw [after_14]
  funext y
  rw [View.read_apply]
  obtain ⟨r, j, rfl⟩ : ∃ (r : Fin 32) (j : Fin 4), y = (ix3 (0 : Fin 1) r j : S1x32x4.Idx) :=
    ⟨y 1, y 2, by funext d; fin_cases d; exacts [Subsingleton.elim (α := Fin 1) _ _, rfl, rfl]⟩
  refine Eq.trans ?_ (congrArg (outVA m c) (emb_14 t r j)).symm
  have hr := r.isLt; have hj := j.isLt; have e : (32 * (t.val % 20) + r.val) % 640 = 32 * (t.val % 20) + r.val := by omega
  show amax (vCell (blk m c t)) r.val j.val = amax (vCell (wh m c (bat t))) ((32 * (t.val % 20) + r.val) % 640) j.val
  rw [e]
  exact blk_amax _ _ _ _ _ hr fun a l ha => blk_vCell m c t _ _ _ ha hj

theorem final_14 (c : Dev nD) : (dats m 0 c).arrAt 14 cfg0.N = outVA m c :=
  (dats m 0 c).arrAt_eq_of_cover 14 (outVA m c) (fun t _ => flushed_14 m c t) fun i => by
    have h0 : (i 0 : Nat) < 3 := (i 0).isLt
    have h1 : (i 1 : Nat) < 640 := (i 1).isLt
    have h2 : (i 2 : Nat) < 4 := (i 2).isLt
    have ht : 20 * (i 0 : Nat) + (i 1 : Nat) / 32 < cfg0.N := by rw [show cfg0.N = 60 from N_0]; omega
    refine ⟨⟨20 * (i 0 : Nat) + (i 1 : Nat) / 32, ht⟩, flush0_14 _, ?_⟩
    generalize hT : (⟨20 * (i 0 : Nat) + (i 1 : Nat) / 32, ht⟩ : Fin cfg0.N) = t
    have hv : t.val = 20 * (i 0 : Nat) + (i 1 : Nat) / 32 := by rw [← hT]
    show i ∈ ((View.whole main_v18_4).slice (win0_14.rect t)).set
    rw [View.set_slice_whole, Rect.mem_set_unit]
    intro a
    fin_cases a
    · show win0_14.index t 0 * 1 ≤ (i 0 : Nat) ∧ (i 0 : Nat) < win0_14.index t 0 * 1 + 1
      rw [index_14]; show t.val / 20 * 1 ≤ (i 0 : Nat) ∧ (i 0 : Nat) < t.val / 20 * 1 + 1; omega
    · show win0_14.index t 1 * 32 ≤ (i 1 : Nat) ∧ (i 1 : Nat) < win0_14.index t 1 * 32 + 32
      rw [index_14]; show t.val % 20 * 32 ≤ (i 1 : Nat) ∧ (i 1 : Nat) < t.val % 20 * 32 + 32; omega
    · show win0_14.index t 2 * 4 ≤ (i 2 : Nat) ∧ (i 2 : Nat) < win0_14.index t 2 * 4 + 4
      rw [index_14]; show 0 * 4 ≤ (i 2 : Nat) ∧ (i 2 : Nat) < 0 * 4 + 4; omega

theorem W_main_v19 (c : Dev nD) : (Pipeline.afterTail₀ cfgs (dats m) 0 (V0 m) [hostOps1] c main_v19 : Vec F S3x2560 .f32)
    = shapeCast S3x2560 (outMA m c) shapeCasts_S3x640x4_S3x2560 := by
  unfold Pipeline.afterTail₀
  simp only [List.flatten_cons, List.flatten_nil, List.append_nil]
  after_results
  exact congrArg (fun a : Vec F S3x640x4 .f32 => shapeCast S3x2560 a shapeCasts_S3x640x4_S3x2560)
    ((Pipeline.withArrays_arr spec0 winFacts0.arr_inj c (V0 m c) (fun w => (dats m 0 c).arrAt w cfg0.N) 13).trans (final_13 m c))

theorem W_main_v20 (c : Dev nD) : (Pipeline.afterTail₀ cfgs (dats m) 0 (V0 m) [hostOps1] c main_v20 : Vec F S3x2560 .f32)
    = shapeCast S3x2560 (outVA m c) shapeCasts_S3x640x4_S3x2560 := by
  unfold Pipeline.afterTail₀
  simp only [List.flatten_cons, List.flatten_nil, List.append_nil]
  after_results
  exact congrArg (fun a : Vec F S3x640x4 .f32 => shapeCast S3x2560 a shapeCasts_S3x640x4_S3x2560)
    ((Pipeline.withArrays_arr spec0 winFacts0.arr_inj c (V0 m c) (fun w => (dats m 0 c).arrAt w cfg0.N) 14).trans (final_14 m c))

/-- Every execution ends with the five results at the step's values and the arguments as they were. -/
theorem run_out : θ_run defs (onTc (τ := τ) (main (F := F))) ⟨m, fun _ => 0, ρ⟩ (fun r => ∀ c : Dev nD,
      r.2.mem ((c.tc : Thread nD τ).loc main_v18_0) = outW m c
      ∧ r.2.mem ((c.tc : Thread nD τ).loc main_v18_1) = outMC m c
      ∧ r.2.mem ((c.tc : Thread nD τ).loc main_v19) = shapeCast S3x2560 (outMA m c) shapeCasts_S3x640x4_S3x2560
      ∧ r.2.mem ((c.tc : Thread nD τ).loc main_v18_2) = outVC m c
      ∧ r.2.mem ((c.tc : Thread nD τ).loc main_v20) = shapeCast S3x2560 (outVA m c) shapeCasts_S3x640x4_S3x2560
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 10).trans (final_10 m c), ((h.1 c).1 11).trans (final_11 m c),
    ((h.1 c).2 main_v19 (Pipeline.mem_restRefs_of main_v19 (by decide) (by decide))).trans (W_main_v19 m c),
    ((h.1 c).1 12).trans (final_12 m c),
    ((h.1 c).2 main_v20 (Pipeline.mem_restRefs_of main_v20 (by decide) (by decide))).trans (W_main_v20 m c),
    ((h.1 c).1 4).trans (((dats m 0 c).arrAt_in 4 rfl _).trans ((A_eq m c 4).trans (V_main_arg0 m c))),
    ((h.1 c).1 5).trans (((dats m 0 c).arrAt_in 5 rfl _).trans ((A_eq m c 5).trans (V_main_arg1 m c))),
    ((h.1 c).1 6).trans (((dats m 0 c).arrAt_in 6 rfl _).trans ((A_eq m c 6).trans (V_main_arg2 m c))),
    ((h.1 c).2 main_arg3 (Pipeline.mem_restRefs_of main_arg3 (by decide) (by decide))).trans (W_main_arg3 m (dats m) c),
    ((h.1 c).1 7).trans (((dats m 0 c).arrAt_in 7 rfl _).trans ((A_eq m c 7).trans (V_main_arg4 m c))),
    ((h.1 c).2 main_arg5 (Pipeline.mem_restRefs_of main_arg5 (by decide) (by decide))).trans (W_main_arg5 m (dats m) c),
    ((h.1 c).2 main_arg6 (Pipeline.mem_restRefs_of main_arg6 (by decide) (by decide))).trans (W_main_arg6 m (dats m) c),
    ((h.1 c).2 main_arg7 (Pipeline.mem_restRefs_of main_arg7 (by decide) (by decide))).trans (W_main_arg7 m (dats m) c)⟩) (run_value m ρ)

end Cert.KernelIdeal.Hand

end
-- ==== Proof.Equation.lean ====
module

public import proofs.«01_k».proof.Pre_tables_ascend
public import proofs.«01_k».proof.Proof.R.Exact
public import proofs.«01_k».proof.Proof.KI.Arrays

/-! The equation of the five results over the extended reals: the new weights, the two arrays of codes and the two arrays of scales that
the kernel leaves are the reference's. The codes need the two tables to ascend. -/

@[expose] public section

set_option maxRecDepth 16384

noncomputable section

namespace Cert.Equation

open Cert.ReferenceIdeal Cert.ReferenceIdeal.Gen Cert.ReferenceIdeal.Hand Idealize.ShloMosaic Idealize.ShloMosaic.ValueIdx Idealize.ShloMosaic.TcCoe
open Cert.KernelIdeal.Hand (Ins whole entry mids mids_mono mCell vCell wCell amax codeCell enc_eq_below mul_inv_eq_ratio absE_le_amax cmpf_ole)

/-- A table is in ascending order. -/
def Ascends (q : FVec Ideal S256 .f32) : Prop := ∀ n, n < 255 → (entry (F := Ideal) q n : EReal) ≤ entry (F := Ideal) q (n + 1)

/-- The precondition's bits are one exactly where both tables ascend. -/
theorem ascends_of_pre [Cert.Pre_tables_ascend.Facts] (w g : FVec Ideal S3x640x8192 .bf16) (mc : IVec S3x2560x2048 8) (ma : FVec Ideal S3x2560 .f32)
    (vc : IVec S3x2560x2048 8) (va : FVec Ideal S3x2560 .f32) (qm qv : FVec Ideal S256 .f32)
    (h : Cert.Pre_tables_ascend.fn (F := Ideal) w g mc ma vc va qm qv = fun _ => 1#1) : Ascends qm ∧ Ascends qv := by
  have key : ∀ q : FVec Ideal S256 .f32, (∀ n : Fin 255, FloatOps.cmpf (F := Ideal) (φ := .f32) .ole
      (extractStridedSlice S255 ![0] q slices_S256_S255_0 (ix1 n)) (extractStridedSlice S255 ![1] q slices_S256_S255_1 (ix1 n)) = 1#1) → Ascends q := by
    intro q hq n hn
    have e0 : extractStridedSlice S255 ![0] q slices_S256_S255_0 (ix1 (⟨n, hn⟩ : Fin 255)) = entry (F := Ideal) q n :=
      extractStridedSlice_apply _ _ _ _ _ fun a => by
        obtain rfl : a = 0 := Subsingleton.elim _ _
        show n % 256 = 0 + n; omega
    have e1 : extractStridedSlice S255 ![1] q slices_S256_S255_1 (ix1 (⟨n, hn⟩ : Fin 255)) = entry (F := Ideal) q (n + 1) :=
      extractStridedSlice_apply _ _ _ _ _ fun a => by
        obtain rfl : a = 0 := Subsingleton.elim _ _
        show (n + 1) % 256 = 1 + n; omega
    have := (cmpf_ole _ _).mp (hq ⟨n, hn⟩)
    rwa [e0, e1] at this
  have both : ∀ a b : BitVec 1, a &&& b = 1#1 → a = 1#1 ∧ b = 1#1 := by decide
  exact ⟨key qm fun n => (both _ _ (congrFun h (ix1 n))).1, key qv fun n => (both _ _ (congrFun h (ix1 n))).2⟩

variable (w g : FVec Ideal S3x640x8192 .bf16) (mc : Vec Ideal S3x2560x2048 .i8) (ma : FVec Ideal S3x2560 .f32) (vc : Vec Ideal S3x2560x2048 .i8)
  (va : FVec Ideal S3x2560 .f32) (qm qv : FVec Ideal S256 .f32)

/-! ### The scales -/

theorem scale_m (b : Fin 3) (R : Fin 2560) :
    scaleRef (mRef g mc ma qm) (ix2 b R) = amax (mCell (whole w g mc ma vc va qm qv b)) (R.val / 4) (R.val % 4) :=
  scaleRef_eq_amax _ _ b R _ _ fun l => mRef_apply w g mc ma vc va qm qv b R l

theorem scale_v (b : Fin 3) (R : Fin 2560) :
    scaleRef (vRef g vc va qv) (ix2 b R) = amax (vCell (whole w g mc ma vc va qm qv b)) (R.val / 4) (R.val % 4) :=
  scaleRef_eq_amax _ _ b R _ _ fun l => vRef_apply w g mc ma vc va qm qv b R l

/-- Scales by row and quarter, flattened, are scales by block. -/
theorem flat_scales (f : Fin 3 → ℕ → ℕ → Ideal .f32) (s : FVec Ideal S3x2560 .f32) (h : (⟨3, ![3, 640, 4]⟩ : Shape).ShapeCasts S3x2560)
    (hs : ∀ b R, s (ix2 b R) = f b (R.val / 4) (R.val % 4)) :
    shapeCast S3x2560 (fun i : (⟨3, ![3, 640, 4]⟩ : Shape).Idx => f (i 0) (i 1).val (i 2).val) h = s := by
  funext i
  obtain ⟨b, R, rfl⟩ : ∃ (b : Fin 3) (R : Fin 2560), i = ix2 b R := ⟨i 0, i 1, by funext d; fin_cases d <;> rfl⟩
  have hR := R.isLt
  rw [hs]
  exact shapeCast_apply _ h _ (ix3 b (⟨R.val / 4, by omega⟩ : Fin 640) (⟨R.val % 4, by omega⟩ : Fin 4)) (by
    rw [Shape.rowMajor_val_three, Shape.rowMajor_val_two]
    show (b.val * 640 + R.val / 4) * 4 + R.val % 4 = b.val * 2560 + R.val
    omega)

/-! ### The codes -/

/-- The kernel's code is the reference's, for a state that the kernel's moments are. -/
theorem code_eq (s : FVec Ideal S3x2560x2048 .f32) (q : FVec Ideal S256 .f32) (hq : Ascends q) (f : ℕ → ℕ → ℕ → Ideal .f32) (b : Fin 3) (R : Fin 2560)
    (l : Fin 2048) (h : ∀ l : Fin 2048, s (ix3 b R l) = f (R.val / 4) (R.val % 4) l.val) :
    (BitVec.ofNat 8 (codeCell (mids (entry (F := Ideal) q)) f (R.val / 4) (R.val % 4) l.val) : BitVec 8)
      = codeRef (yRef s (scaleRef s)) (midRef q) (ix3 b R l) := by
  rw [codeRef_apply, yRef_apply, scaleRef_eq_amax s f b R _ _ h, h l]
  unfold codeCell
  rw [enc_eq_below _ (mids_mono _ hq), mul_inv_eq_ratio _ _ (absE_le_amax f _ _ _ l.isLt)]

/-! ### The weights -/

/-- Weights block by block, put back into rows, are weights by row and column. -/
theorem rows_weights (f : Fin 3 → ℕ → ℕ → ℕ → Ideal .bf16) (s : FVec Ideal S3x2560x2048 .bf16)
    (hs : ∀ b R l, s (ix3 b R l) = f b (R.val / 4) (R.val % 4) l.val) :
    (fun i : S3x640x8192.Idx => f (i 0) (i 1).val ((i 2).val / 2048) ((i 2).val % 2048)) = shapeCast S3x640x8192 s shapeCasts_S3x2560x2048_S3x640x8192 := by
  funext i
  obtain ⟨b, r, j, rfl⟩ : ∃ (b : Fin 3) (r : Fin 640) (j : Fin 8192), i = ix3 b r j := ⟨i 0, i 1, i 2, by funext d; fin_cases d <;> rfl⟩
  have hr := r.isLt
  have hj := j.isLt
  refine Eq.symm ((shapeCast_apply s _ _ (ix3 b (⟨4 * r.val + j.val / 2048, by omega⟩ : Fin 2560) (⟨j.val % 2048, by omega⟩ : Fin 2048)) (by
    rw [Shape.rowMajor_val_three, Shape.rowMajor_val_three]
    show (b.val * 2560 + (4 * r.val + j.val / 2048)) * 2048 + j.val % 2048 = (b.val * 640 + r.val) * 8192 + j.val
    omega)).trans ?_)
  rw [hs]
  show f b ((4 * r.val + j.val / 2048) / 4) ((4 * r.val + j.val / 2048) % 4) (j.val % 2048) = f b r.val (j.val / 2048) (j.val % 2048)
  rw [show (4 * r.val + j.val / 2048) / 4 = r.val by omega, show (4 * r.val + j.val / 2048) % 4 = j.val / 2048 by omega]

/-! ### The five results -/

variable (m : (ℓ : Loc KernelIdeal.nD KernelIdeal.τ KernelIdeal.sig) → Buf (Elt Ideal) ℓ) (c : Dev KernelIdeal.nD)

/-- The arrays the kernel is launched on. -/
abbrev inW : FVec Ideal S3x640x8192 .bf16 := m ((c.tc : Thread KernelIdeal.nD KernelIdeal.τ).loc KernelIdeal.main_arg0)
abbrev inG : FVec Ideal S3x640x8192 .bf16 := m ((c.tc : Thread KernelIdeal.nD KernelIdeal.τ).loc KernelIdeal.main_arg1)
abbrev inMC : Vec Ideal S3x2560x2048 .i8 := m ((c.tc : Thread KernelIdeal.nD KernelIdeal.τ).loc KernelIdeal.main_arg2)
abbrev inMA : FVec Ideal S3x2560 .f32 := m ((c.tc : Thread KernelIdeal.nD KernelIdeal.τ).loc KernelIdeal.main_arg3)
abbrev inVC : Vec Ideal S3x2560x2048 .i8 := m ((c.tc : Thread KernelIdeal.nD KernelIdeal.τ).loc KernelIdeal.main_arg4)
abbrev inVA : FVec Ideal S3x2560 .f32 := m ((c.tc : Thread KernelIdeal.nD KernelIdeal.τ).loc KernelIdeal.main_arg5)
abbrev inQM : FVec Ideal S256 .f32 := m ((c.tc : Thread KernelIdeal.nD KernelIdeal.τ).loc KernelIdeal.main_arg6)
abbrev inQV : FVec Ideal S256 .f32 := m ((c.tc : Thread KernelIdeal.nD KernelIdeal.τ).loc KernelIdeal.main_arg7)

/-- The reference's new first moments of those arrays. -/
abbrev newM : FVec Ideal S3x2560x2048 .f32 := mRef (inG m c) (inMC m c) (inMA m c) (inQM m c)
/-- The reference's new second moments of those arrays. -/
abbrev newV : FVec Ideal S3x2560x2048 .f32 := vRef (inG m c) (inVC m c) (inVA m c) (inQV m c)

theorem outW_eq : KernelIdeal.Hand.outW m c = shapeCast S3x640x8192 (wRef (inW m c) (newM m c) (newV m c)) shapeCasts_S3x2560x2048_S3x640x8192 :=
  rows_weights (fun b => wCell (KernelIdeal.Hand.wh m c b)) _ fun b R l => wRef_apply _ _ _ _ _ _ _ _ b R l

theorem outMA_eq : shapeCast S3x2560 (KernelIdeal.Hand.outMA m c) KernelIdeal.Gen.shapeCasts_S3x640x4_S3x2560 = scaleRef (newM m c) :=
  flat_scales (fun b => amax (mCell (KernelIdeal.Hand.wh m c b))) _ _ fun b R => scale_m _ _ _ _ _ _ _ _ b R

theorem outVA_eq : shapeCast S3x2560 (KernelIdeal.Hand.outVA m c) KernelIdeal.Gen.shapeCasts_S3x640x4_S3x2560 = scaleRef (newV m c) :=
  flat_scales (fun b => amax (vCell (KernelIdeal.Hand.wh m c b))) _ _ fun b R => scale_v _ _ _ _ _ _ _ _ b R

theorem outMC_eq (h : Ascends (inQM m c)) : KernelIdeal.Hand.outMC m c = codeRef (yRef (newM m c) (scaleRef (newM m c))) (midRef (inQM m c)) := by
  funext i
  obtain ⟨b, R, l, rfl⟩ : ∃ (b : Fin 3) (R : Fin 2560) (l : Fin 2048), i = ix3 b R l := ⟨i 0, i 1, i 2, by funext d; fin_cases d <;> rfl⟩
  exact code_eq _ _ h (mCell (KernelIdeal.Hand.wh m c b)) b R l fun l => mRef_apply _ _ _ _ _ _ _ _ b R l

theorem outVC_eq (h : Ascends (inQV m c)) : KernelIdeal.Hand.outVC m c = codeRef (yRef (newV m c) (scaleRef (newV m c))) (midRef (inQV m c)) := by
  funext i
  obtain ⟨b, R, l, rfl⟩ : ∃ (b : Fin 3) (R : Fin 2560) (l : Fin 2048), i = ix3 b R l := ⟨i 0, i 1, i 2, by funext d; fin_cases d <;> rfl⟩
  exact code_eq _ _ h (vCell (KernelIdeal.Hand.wh m c b)) b R l fun l => vRef_apply _ _ _ _ _ _ _ _ b R l

end Cert.Equation

end
-- ==== Proof.lean ====
module

public import proofs.«01_k».proof.Defs
public import proofs.«01_k».proof.Proof.K.Frame
public import proofs.«01_k».proof.Proof.KI.Frame
public import proofs.«01_k».proof.Proof.Equation
public import proofs.«01_k».proof.Proof.Gen.ReferenceIdeal
public import proofs.«01_k».proof.Proof.Gen.ReferenceIdeal.Run

/-! The claim, assembled: the runs of the kernel and of the reference that leave the arguments as they were, the kernel's idealization,
and the equality of the five results over the extended reals. -/

@[expose] public section

noncomputable section

namespace Cert.Proof

open Idealize.ShloMosaic Idealize.SL.Sem

/-- The precondition's two slices are in range. -/
theorem pre_facts : Cert.Pre_tables_ascend.Facts := ⟨by decide, by decide⟩

/-- The reference runs, its arguments end as they were, and every semaphore reads zero. -/
theorem reference_frame : quiescent_ReferenceIdeal := fun m ρ _ =>
  (θ_run (ReferenceIdeal.defs (F := Ideal)) _ _).mono (fun r h => And.intro (fun c => (h c).2.2.2.2.2)
    (Idealize.ShloMosaic.sem_eq_zero_of_no_sems (by decide) r.2)) (ReferenceIdeal.Value.run m ρ)

/-- Where both tables ascend, the kernel and the reference end with the same five results. -/
theorem same_results [Cert.Pre_tables_ascend.Facts] : algebraic_KernelIdeal_ReferenceIdeal_pre_tables_ascend := by
  intro m ρ m' ρ' hpre hargs
  refine ⟨fun c => KernelIdeal.Hand.outW m c, fun c => KernelIdeal.Hand.outMC m c,
    fun c => shapeCast KernelIdeal.S3x2560 (KernelIdeal.Hand.outMA m c) KernelIdeal.Gen.shapeCasts_S3x640x4_S3x2560,
    fun c => KernelIdeal.Hand.outVC m c,
    fun c => shapeCast KernelIdeal.S3x2560 (KernelIdeal.Hand.outVA m c) KernelIdeal.Gen.shapeCasts_S3x640x4_S3x2560,
    KernelIdeal.Hand.run_out m ρ, ?_⟩
  refine (θ_run (ReferenceIdeal.defs (F := Ideal)) _ _).mono (fun r h c => ?_) (ReferenceIdeal.Hand.run_ref m' ρ')
  obtain ⟨a0, a1, a2, a3, a4, a5, a6, a7⟩ := hargs c
  obtain ⟨hm, hv⟩ := Equation.ascends_of_pre _ _ _ _ _ _ _ _ (hpre c)
  obtain ⟨h0, h1, h2, h3, h4, hrest⟩ := h c
  have em : ReferenceIdeal.Hand.mNew m' c = Equation.newM m c := by
    unfold ReferenceIdeal.Hand.mNew Equation.newM
    rw [a1, a2, a3, a6]
  have ev : ReferenceIdeal.Hand.vNew m' c = Equation.newV m c := by
    unfold ReferenceIdeal.Hand.vNew Equation.newV
    rw [a1, a4, a5, a7]
  rw [em, ev, a0] at h0
  rw [em, a6] at h1
  rw [em] at h2
  rw [ev, a7] at h3
  rw [ev] at h4
  exact ⟨h0.trans (Equation.outW_eq m c).symm, h1.trans (Equation.outMC_eq m c hm).symm, h2.trans (Equation.outMA_eq m c).symm,
    h3.trans (Equation.outVC_eq m c hv).symm, h4.trans (Equation.outVA_eq m c).symm, hrest⟩

/-- The claim of the five parts. -/
theorem claim : Cert.Claim :=
  ⟨Kernel.Gen.facts, KernelIdeal.Gen.facts, ReferenceIdeal.Gen.facts, pre_facts,
    fun m ρ _ => Kernel.Hand.frame m ρ,
    fun m ρ _ => KernelIdeal.Hand.frame_all m ρ,
    fun m ρ _ => KernelIdeal.Hand.frame_all m ρ,
    fun m ρ _ => reference_frame m ρ trivial,
    fun m ρ _ => reference_frame m ρ trivial,
    trivial,
    @same_results pre_facts⟩

end Cert.Proof

end
